-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![8192, 1024]⟩ ⟨2, ![8192, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![4096, 2048]⟩ ⟨2, ![8192, 2048]⟩ (Layout.meshBlock [2, 2] ![[1], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = Layout.blockN ⟨2, ![8192, 1024]⟩ ⟨2, ![8192, 2048]⟩ (Layout.meshBlock [2, 2] ![[], [1]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4096x2048 : Shape := ⟨2, ![4096, 2048]⟩
abbrev S4096x1024 : Shape := ⟨2, ![4096, 1024]⟩
abbrev S2048x1024 : Shape := ⟨2, ![2048, 1024]⟩
abbrev S1 : Shape := ⟨1, ![1]⟩
abbrev S16 : Shape := ⟨1, ![16]⟩
abbrev S_ : Shape := ⟨0, ![]⟩
abbrev S128x1024 : Shape := ⟨2, ![128, 1024]⟩
abbrev S256x1024 : Shape := ⟨2, ![256, 1024]⟩
abbrev S8192x1024 : Shape := ⟨2, ![8192, 1024]⟩
abbrev S8x1024x1024 : Shape := ⟨3, ![8, 1024, 1024]⟩
abbrev S8 : Shape := ⟨1, ![8]⟩
abbrev S1x1024x1024 : Shape := ⟨3, ![1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x1024, .bf16⟩
  | .hbm, ⟨2, _⟩ => ⟨S4096x1024, .bf16⟩
  | .hbm, ⟨3, _⟩ => ⟨S8192x1024, .bf16⟩
  | .local _ .vmem, ⟨0, _⟩ => ⟨S2048x1024, .f32⟩
  | .local _ .vmem, ⟨1, _⟩ => ⟨S4096x1024, .f32⟩
  | .local _ .vmem, ⟨2, _⟩ => ⟨S4096x1024, .bf16⟩
  | .local _ .vmem, ⟨3, _⟩ => ⟨S2048x1024, .bf16⟩
  | .local _ .vmem, ⟨4, _⟩ => ⟨S8x1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 113 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | _ => false

abbrev sig : RefSig :=
  (ofTc nBuf bufTy 1 113 bufScoped semScoped dmaSemScoped tileCredit tileCredit_eq_zero tileCredit_pos).withBarriers [(0, 0)]

abbrev main_arg0 : Ref sig .tc := ⟨.hbm, 0, rfl⟩
abbrev main_v1_0 : Ref sig .tc := ⟨.hbm, 1, rfl⟩
abbrev main_v1_1 : Ref sig .tc := ⟨.hbm, 2, rfl⟩
abbrev main_v2 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc1_scratch0 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v8 : BitVec 32 := Scalar.muli v2 c2048_i32
  let v9 : BitVec 32 := Scalar.addi v8 c0_i32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_4 v5
  let c1024_i32 : BitVec 32 := 1024#32
  let v11 : BitVec 32 := Scalar.muli v10 c1024_i32
  ![v9.toNat, v11.toNat]
def k0_dev1 (d0 : Dev nD) : Nat :=
  let c0_i32_88 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_87 : BitVec 32 := 2#32
  let v137 : BitVec 32 := Scalar.muli v2 c2_i32_87
  let v138 : BitVec 32 := Scalar.addi c0_i32_88 v137
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_89 : BitVec 32 := 1#32
  let v139 : BitVec 32 := Scalar.muli v6 c1_i32_89
  let v140 : BitVec 32 := Scalar.addi v138 v139
  v140.toNat
def k0_dev2 (d0 : Dev nD) : Nat :=
  let c0_i32_92 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_91 : BitVec 32 := 2#32
  let v141 : BitVec 32 := Scalar.muli v7 c2_i32_91
  let v142 : BitVec 32 := Scalar.addi c0_i32_92 v141
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_93 : BitVec 32 := 1#32
  let v143 : BitVec 32 := Scalar.muli v5 c1_i32_93
  let v144 : BitVec 32 := Scalar.addi v142 v143
  v144.toNat
def k0_off2 (d0 : Dev nD) (c0_i32_102 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32_101 : BitVec 32 := 2048#32
  let v154 : BitVec 32 := Scalar.muli v2 c2048_i32_101
  let v155 : BitVec 32 := Scalar.addi v154 c0_i32_102
  let c0_i32_108 : BitVec 32 := 0#32
  ![v155.toNat, 0]
def k0_dev3 (d0 : Dev nD) : Nat :=
  let c0_i32_106 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_105 : BitVec 32 := 2#32
  let v156 : BitVec 32 := Scalar.muli v2 c2_i32_105
  let v157 : BitVec 32 := Scalar.addi c0_i32_106 v156
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_107 : BitVec 32 := 1#32
  let v158 : BitVec 32 := Scalar.muli v6 c1_i32_107
  let v159 : BitVec 32 := Scalar.addi v157 v158
  v159.toNat
def k0_dev4 (d0 : Dev nD) : Nat :=
  let c0_i32_122 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_121 : BitVec 32 := 2#32
  let v177 : BitVec 32 := Scalar.muli v2 c2_i32_121
  let v178 : BitVec 32 := Scalar.addi c0_i32_122 v177
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_123 : BitVec 32 := 1#32
  let v179 : BitVec 32 := Scalar.muli v6 c1_i32_123
  let v180 : BitVec 32 := Scalar.addi v178 v179
  v180.toNat
def k0_dev5 (d0 : Dev nD) : Nat :=
  let c0_i32_138 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_137 : BitVec 32 := 2#32
  let v198 : BitVec 32 := Scalar.muli v2 c2_i32_137
  let v199 : BitVec 32 := Scalar.addi c0_i32_138 v198
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_139 : BitVec 32 := 1#32
  let v200 : BitVec 32 := Scalar.muli v6 c1_i32_139
  let v201 : BitVec 32 := Scalar.addi v199 v200
  v201.toNat
def k0_dev6 (d0 : Dev nD) : Nat :=
  let c0_i32_154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_153 : BitVec 32 := 2#32
  let v219 : BitVec 32 := Scalar.muli v2 c2_i32_153
  let v220 : BitVec 32 := Scalar.addi c0_i32_154 v219
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_155 : BitVec 32 := 1#32
  let v221 : BitVec 32 := Scalar.muli v6 c1_i32_155
  let v222 : BitVec 32 := Scalar.addi v220 v221
  v222.toNat
def k0_dev7 (d0 : Dev nD) : Nat :=
  let c0_i32_170 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_169 : BitVec 32 := 2#32
  let v240 : BitVec 32 := Scalar.muli v2 c2_i32_169
  let v241 : BitVec 32 := Scalar.addi c0_i32_170 v240
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_171 : BitVec 32 := 1#32
  let v242 : BitVec 32 := Scalar.muli v6 c1_i32_171
  let v243 : BitVec 32 := Scalar.addi v241 v242
  v243.toNat
def k0_dev8 (d0 : Dev nD) : Nat :=
  let c0_i32_186 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_185 : BitVec 32 := 2#32
  let v261 : BitVec 32 := Scalar.muli v2 c2_i32_185
  let v262 : BitVec 32 := Scalar.addi c0_i32_186 v261
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_187 : BitVec 32 := 1#32
  let v263 : BitVec 32 := Scalar.muli v6 c1_i32_187
  let v264 : BitVec 32 := Scalar.addi v262 v263
  v264.toNat
def k0_dev9 (d0 : Dev nD) : Nat :=
  let c0_i32_202 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_201 : BitVec 32 := 2#32
  let v282 : BitVec 32 := Scalar.muli v2 c2_i32_201
  let v283 : BitVec 32 := Scalar.addi c0_i32_202 v282
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_203 : BitVec 32 := 1#32
  let v284 : BitVec 32 := Scalar.muli v6 c1_i32_203
  let v285 : BitVec 32 := Scalar.addi v283 v284
  v285.toNat
def k0_dev10 (d0 : Dev nD) : Nat :=
  let c0_i32_218 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_217 : BitVec 32 := 2#32
  let v303 : BitVec 32 := Scalar.muli v2 c2_i32_217
  let v304 : BitVec 32 := Scalar.addi c0_i32_218 v303
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_219 : BitVec 32 := 1#32
  let v305 : BitVec 32 := Scalar.muli v6 c1_i32_219
  let v306 : BitVec 32 := Scalar.addi v304 v305
  v306.toNat
def k0_dev11 (d0 : Dev nD) : Nat :=
  let c0_i32_234 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_233 : BitVec 32 := 2#32
  let v324 : BitVec 32 := Scalar.muli v2 c2_i32_233
  let v325 : BitVec 32 := Scalar.addi c0_i32_234 v324
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_235 : BitVec 32 := 1#32
  let v326 : BitVec 32 := Scalar.muli v6 c1_i32_235
  let v327 : BitVec 32 := Scalar.addi v325 v326
  v327.toNat
def k0_dev12 (d0 : Dev nD) : Nat :=
  let c0_i32_250 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_249 : BitVec 32 := 2#32
  let v345 : BitVec 32 := Scalar.muli v2 c2_i32_249
  let v346 : BitVec 32 := Scalar.addi c0_i32_250 v345
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_251 : BitVec 32 := 1#32
  let v347 : BitVec 32 := Scalar.muli v6 c1_i32_251
  let v348 : BitVec 32 := Scalar.addi v346 v347
  v348.toNat
def k0_dev13 (d0 : Dev nD) : Nat :=
  let c0_i32_266 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_265 : BitVec 32 := 2#32
  let v366 : BitVec 32 := Scalar.muli v2 c2_i32_265
  let v367 : BitVec 32 := Scalar.addi c0_i32_266 v366
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_267 : BitVec 32 := 1#32
  let v368 : BitVec 32 := Scalar.muli v6 c1_i32_267
  let v369 : BitVec 32 := Scalar.addi v367 v368
  v369.toNat
def k0_dev14 (d0 : Dev nD) : Nat :=
  let c0_i32_282 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_281 : BitVec 32 := 2#32
  let v387 : BitVec 32 := Scalar.muli v2 c2_i32_281
  let v388 : BitVec 32 := Scalar.addi c0_i32_282 v387
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_283 : BitVec 32 := 1#32
  let v389 : BitVec 32 := Scalar.muli v6 c1_i32_283
  let v390 : BitVec 32 := Scalar.addi v388 v389
  v390.toNat
def k0_dev15 (d0 : Dev nD) : Nat :=
  let c0_i32_298 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_297 : BitVec 32 := 2#32
  let v408 : BitVec 32 := Scalar.muli v2 c2_i32_297
  let v409 : BitVec 32 := Scalar.addi c0_i32_298 v408
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_299 : BitVec 32 := 1#32
  let v410 : BitVec 32 := Scalar.muli v6 c1_i32_299
  let v411 : BitVec 32 := Scalar.addi v409 v410
  v411.toNat
def k0_dev16 (d0 : Dev nD) : Nat :=
  let c0_i32_314 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_313 : BitVec 32 := 2#32
  let v429 : BitVec 32 := Scalar.muli v2 c2_i32_313
  let v430 : BitVec 32 := Scalar.addi c0_i32_314 v429
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_315 : BitVec 32 := 1#32
  let v431 : BitVec 32 := Scalar.muli v6 c1_i32_315
  let v432 : BitVec 32 := Scalar.addi v430 v431
  v432.toNat
def k0_dev17 (d0 : Dev nD) : Nat :=
  let c0_i32_330 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_329 : BitVec 32 := 2#32
  let v450 : BitVec 32 := Scalar.muli v2 c2_i32_329
  let v451 : BitVec 32 := Scalar.addi c0_i32_330 v450
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_331 : BitVec 32 := 1#32
  let v452 : BitVec 32 := Scalar.muli v6 c1_i32_331
  let v453 : BitVec 32 := Scalar.addi v451 v452
  v453.toNat
def k0_dev18 (d0 : Dev nD) : Nat :=
  let c0_i32_346 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_345 : BitVec 32 := 2#32
  let v471 : BitVec 32 := Scalar.muli v2 c2_i32_345
  let v472 : BitVec 32 := Scalar.addi c0_i32_346 v471
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_347 : BitVec 32 := 1#32
  let v473 : BitVec 32 := Scalar.muli v6 c1_i32_347
  let v474 : BitVec 32 := Scalar.addi v472 v473
  v474.toNat
def k0_off3 (d0 : Dev nD) : Fin 2 → Nat :=
  let c0_i32_353 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_351 : BitVec 32 := 1024#32
  let v481 : BitVec 32 := Scalar.muli v5 c1024_i32_351
  ![0, v481.toNat]
def k0_dev19 (d0 : Dev nD) : Nat :=
  let c0_i32_367 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_366 : BitVec 32 := 2#32
  let v495 : BitVec 32 := Scalar.muli v7 c2_i32_366
  let v496 : BitVec 32 := Scalar.addi c0_i32_367 v495
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_368 : BitVec 32 := 1#32
  let v497 : BitVec 32 := Scalar.muli v5 c1_i32_368
  let v498 : BitVec 32 := Scalar.addi v496 v497
  v498.toNat
def k0_dev20 (d0 : Dev nD) : Nat :=
  let c0_i32_395 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_394 : BitVec 32 := 2#32
  let v527 : BitVec 32 := Scalar.muli v7 c2_i32_394
  let v528 : BitVec 32 := Scalar.addi c0_i32_395 v527
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_396 : BitVec 32 := 1#32
  let v529 : BitVec 32 := Scalar.muli v5 c1_i32_396
  let v530 : BitVec 32 := Scalar.addi v528 v529
  v530.toNat
def k0_dev21 (d0 : Dev nD) : Nat :=
  let c0_i32_421 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_420 : BitVec 32 := 2#32
  let v556 : BitVec 32 := Scalar.muli v7 c2_i32_420
  let v557 : BitVec 32 := Scalar.addi c0_i32_421 v556
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_422 : BitVec 32 := 1#32
  let v558 : BitVec 32 := Scalar.muli v5 c1_i32_422
  let v559 : BitVec 32 := Scalar.addi v557 v558
  v559.toNat
def k0_dev22 (d0 : Dev nD) : Nat :=
  let c0_i32_447 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_446 : BitVec 32 := 2#32
  let v585 : BitVec 32 := Scalar.muli v7 c2_i32_446
  let v586 : BitVec 32 := Scalar.addi c0_i32_447 v585
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_448 : BitVec 32 := 1#32
  let v587 : BitVec 32 := Scalar.muli v5 c1_i32_448
  let v588 : BitVec 32 := Scalar.addi v586 v587
  v588.toNat
def k0_dev23 (d0 : Dev nD) : Nat :=
  let c0_i32_473 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_472 : BitVec 32 := 2#32
  let v614 : BitVec 32 := Scalar.muli v7 c2_i32_472
  let v615 : BitVec 32 := Scalar.addi c0_i32_473 v614
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_474 : BitVec 32 := 1#32
  let v616 : BitVec 32 := Scalar.muli v5 c1_i32_474
  let v617 : BitVec 32 := Scalar.addi v615 v616
  v617.toNat
def k0_dev24 (d0 : Dev nD) : Nat :=
  let c0_i32_499 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_498 : BitVec 32 := 2#32
  let v643 : BitVec 32 := Scalar.muli v7 c2_i32_498
  let v644 : BitVec 32 := Scalar.addi c0_i32_499 v643
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_500 : BitVec 32 := 1#32
  let v645 : BitVec 32 := Scalar.muli v5 c1_i32_500
  let v646 : BitVec 32 := Scalar.addi v644 v645
  v646.toNat
def k0_dev25 (d0 : Dev nD) : Nat :=
  let c0_i32_525 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_524 : BitVec 32 := 2#32
  let v672 : BitVec 32 := Scalar.muli v7 c2_i32_524
  let v673 : BitVec 32 := Scalar.addi c0_i32_525 v672
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_526 : BitVec 32 := 1#32
  let v674 : BitVec 32 := Scalar.muli v5 c1_i32_526
  let v675 : BitVec 32 := Scalar.addi v673 v674
  v675.toNat
def k0_dev26 (d0 : Dev nD) : Nat :=
  let c0_i32_551 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_550 : BitVec 32 := 2#32
  let v701 : BitVec 32 := Scalar.muli v7 c2_i32_550
  let v702 : BitVec 32 := Scalar.addi c0_i32_551 v701
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_552 : BitVec 32 := 1#32
  let v703 : BitVec 32 := Scalar.muli v5 c1_i32_552
  let v704 : BitVec 32 := Scalar.addi v702 v703
  v704.toNat
def k0_dev27 (d0 : Dev nD) : Nat :=
  let c0_i32_577 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_576 : BitVec 32 := 2#32
  let v730 : BitVec 32 := Scalar.muli v7 c2_i32_576
  let v731 : BitVec 32 := Scalar.addi c0_i32_577 v730
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_578 : BitVec 32 := 1#32
  let v732 : BitVec 32 := Scalar.muli v5 c1_i32_578
  let v733 : BitVec 32 := Scalar.addi v731 v732
  v733.toNat
def k0_dev28 (d0 : Dev nD) : Nat :=
  let c0_i32_602 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_601 : BitVec 32 := 2#32
  let v759 : BitVec 32 := Scalar.muli v7 c2_i32_601
  let v760 : BitVec 32 := Scalar.addi c0_i32_602 v759
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_603 : BitVec 32 := 1#32
  let v761 : BitVec 32 := Scalar.muli v5 c1_i32_603
  let v762 : BitVec 32 := Scalar.addi v760 v761
  v762.toNat
def k0_dev29 (d0 : Dev nD) : Nat :=
  let c0_i32_626 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_625 : BitVec 32 := 2#32
  let v788 : BitVec 32 := Scalar.muli v7 c2_i32_625
  let v789 : BitVec 32 := Scalar.addi c0_i32_626 v788
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_627 : BitVec 32 := 1#32
  let v790 : BitVec 32 := Scalar.muli v5 c1_i32_627
  let v791 : BitVec 32 := Scalar.addi v789 v790
  v791.toNat
def k0_dev30 (d0 : Dev nD) : Nat :=
  let c0_i32_650 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_649 : BitVec 32 := 2#32
  let v817 : BitVec 32 := Scalar.muli v7 c2_i32_649
  let v818 : BitVec 32 := Scalar.addi c0_i32_650 v817
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_651 : BitVec 32 := 1#32
  let v819 : BitVec 32 := Scalar.muli v5 c1_i32_651
  let v820 : BitVec 32 := Scalar.addi v818 v819
  v820.toNat
def k0_dev31 (d0 : Dev nD) : Nat :=
  let c0_i32_674 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_673 : BitVec 32 := 2#32
  let v846 : BitVec 32 := Scalar.muli v7 c2_i32_673
  let v847 : BitVec 32 := Scalar.addi c0_i32_674 v846
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_675 : BitVec 32 := 1#32
  let v848 : BitVec 32 := Scalar.muli v5 c1_i32_675
  let v849 : BitVec 32 := Scalar.addi v847 v848
  v849.toNat
def k0_dev32 (d0 : Dev nD) : Nat :=
  let c0_i32_698 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_697 : BitVec 32 := 2#32
  let v875 : BitVec 32 := Scalar.muli v7 c2_i32_697
  let v876 : BitVec 32 := Scalar.addi c0_i32_698 v875
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_699 : BitVec 32 := 1#32
  let v877 : BitVec 32 := Scalar.muli v5 c1_i32_699
  let v878 : BitVec 32 := Scalar.addi v876 v877
  v878.toNat
def k0_dev33 (d0 : Dev nD) : Nat :=
  let c0_i32_722 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_721 : BitVec 32 := 2#32
  let v904 : BitVec 32 := Scalar.muli v7 c2_i32_721
  let v905 : BitVec 32 := Scalar.addi c0_i32_722 v904
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_723 : BitVec 32 := 1#32
  let v906 : BitVec 32 := Scalar.muli v5 c1_i32_723
  let v907 : BitVec 32 := Scalar.addi v905 v906
  v907.toNat
def k0_dev34 (d0 : Dev nD) : Nat :=
  let c0_i32_746 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_745 : BitVec 32 := 2#32
  let v933 : BitVec 32 := Scalar.muli v7 c2_i32_745
  let v934 : BitVec 32 := Scalar.addi c0_i32_746 v933
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_747 : BitVec 32 := 1#32
  let v935 : BitVec 32 := Scalar.muli v5 c1_i32_747
  let v936 : BitVec 32 := Scalar.addi v934 v935
  v936.toNat
abbrev grid1 : Pipeline.Grid := .none

def k1_off1 (d0 : Dev nD) (c0_i32 : BitVec 32) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c4096_i32 : BitVec 32 := 4096#32
  let v3 : BitVec 32 := Scalar.muli v2 c4096_i32
  let v4 : BitVec 32 := Scalar.addi v3 c0_i32
  let c0_i32_66 : BitVec 32 := 0#32
  ![v4.toNat, 0]
def k1_off2 (d0 : Dev nD) (c0_i32_5 : BitVec 32) : Fin 2 → Nat :=
  let c1_i32_3 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v11 : BitVec 32 := Scalar.subi c1_i32_3 v2
  let c4096_i32_4 : BitVec 32 := 4096#32
  let v12 : BitVec 32 := Scalar.muli v11 c4096_i32_4
  let v13 : BitVec 32 := Scalar.addi v12 c0_i32_5
  let c0_i32_110 : BitVec 32 := 0#32
  ![v13.toNat, 0]
-- ==== Reference.lean ====
abbrev S8192x2048 : Shape := ⟨2, ![8192, 2048]⟩

abbrev nBuf : Space → Nat
  | .hbm => 2
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Compact.lean ====
/-
  The two kernel bodies, written compactly.

  The printed bodies list their statements one by one: sixteen peer copies, sixteen sends, and so on. Here each kind of
  statement is written once, at a chunk number `r`, and the bodies are runs of these over the chunk numbers. That the
  compact bodies ARE the printed ones is by unfolding (`comm_eq`, `asm_eq`).
-/
module

public import proofs.«01_k».proof.Proof.Gen.KernelIdeal.Points

@[expose] public section

set_option synthInstance.maxSize 4096

noncomputable section

namespace Cert.KernelIdeal.Comm

open Idealize.ShloMosaic Idealize.SL.Sem
open Idealize.ShloMosaic.TcCoe
open Cert.KernelIdeal.Gen

variable {F : FTy → Type} [FloatOps F]

/-- A kernel body's statements. -/
abbrev P (F : FTy → Type) (α : Type) : Type _ := Prog (TpuEff nD τ sig (Elt F) Λ₀ .tc) α

/-- The chunk numbers in order. -/
abbrev chunks : List (Fin 16) := [0, 1, 2, 3, 4, 5, 6, 7, 8, 9, 10, 11, 12, 13, 14, 15]

/-- The quarter numbers in order. -/
abbrev quarters : List (Fin 4) := [0, 1, 2, 3]

/-- Run a statement at every number of a list, then go on. -/
def run {n : Nat} (f : Fin n → P F PUnit) : List (Fin n) → P F PUnit → P F PUnit
  | [], k => k
  | r :: rs, k => (f r).bind fun _ => run f rs k

/-! ## The buffers -/

abbrev xM : Memref sig .tc .hbm S4096x2048 .f32 := Memref.whole main_arg0
abbrev exM : Memref sig .tc .hbm S4096x1024 .bf16 := Memref.whole main_v1_0
abbrev owM : Memref sig .tc .hbm S4096x1024 .bf16 := Memref.whole main_v1_1
abbrev outM : Memref sig .tc .hbm S8192x1024 .bf16 := Memref.whole main_v2
abbrev pfM : Memref sig .tc .vmem S2048x1024 .f32 := Memref.whole cc0_scratch0
abbrev ofM : Memref sig .tc .vmem S4096x1024 .f32 := Memref.whole cc0_scratch1
abbrev obM : Memref sig .tc .vmem S4096x1024 .bf16 := Memref.whole cc0_scratch2
abbrev sbM : Memref sig .tc .vmem S2048x1024 .bf16 := Memref.whole cc0_scratch3
abbrev bnM : Memref sig .tc .vmem S8x1024x1024 .bf16 := Memref.whole cc1_scratch0

/-! ## The rectangles -/

theorem inbS (r : Fin 16) : ∀ a, (![r.val] : Fin 1 → Nat) a + S1.size a ≤ S16.size a := by revert r; decide
theorem inbS8 (r : Fin 8) : ∀ a, (![r.val] : Fin 1 → Nat) a + S1.size a ≤ S8.size a := by revert r; decide
theorem inb128 (r : Fin 16) : ∀ a, (![128 * r.val, 0] : Fin 2 → Nat) a + S128x1024.size a ≤ S2048x1024.size a := by
  revert r; decide
theorem inb256 (r : Fin 16) : ∀ a, (![256 * r.val, 0] : Fin 2 → Nat) a + S256x1024.size a ≤ S4096x1024.size a := by
  revert r; decide
theorem inb1024 (r : Fin 4) : ∀ a, (![1024 * r.val, 0] : Fin 2 → Nat) a + S1024x1024.size a ≤ S4096x1024.size a := by
  revert r; decide
theorem inbBn (r : Fin 8) : ∀ a, (![r.val, 0, 0] : Fin 3 → Nat) a + S1x1024x1024.size a ≤ S8x1024x1024.size a := by
  revert r; decide

/-- Chunk `r` of a buffer of 2048 rows. -/
abbrev R128 (r : Fin 16) : Rect S2048x1024 := Rect.unit (s := S2048x1024) ![128 * r.val, 0] S128x1024.size (inb128 r)
/-- Chunk `r` of a buffer of 4096 rows. -/
abbrev R256 (r : Fin 16) : Rect S4096x1024 := Rect.unit (s := S4096x1024) ![256 * r.val, 0] S256x1024.size (inb256 r)
/-- Quarter `r` of a buffer of 4096 rows. -/
abbrev R1024 (r : Fin 4) : Rect S4096x1024 := Rect.unit (s := S4096x1024) ![1024 * r.val, 0] S1024x1024.size (inb1024 r)
/-- Slot `r` of the bounce buffer. -/
abbrev RBn (r : Fin 8) : Rect S8x1024x1024 := Rect.unit (s := S8x1024x1024) ![r.val, 0, 0] S1x1024x1024.size (inbBn r)
/-- The piece of `x` device `d` sends to its y neighbour as chunk `r`. -/
abbrev RPeer (d : Dev nD) (r : Fin 16) : Rect S4096x2048 :=
  Rect.unit (s := S4096x2048) (k0_off1 d (BitVec.ofNat 32 (128 * r.val))) S128x1024.size (k0_off1_inb d r)
/-- The rows chunk `r` of a transfer of device `d` lands on. -/
abbrev RLand (d : Dev nD) (r : Fin 16) : Rect S4096x1024 :=
  Rect.unit (s := S4096x1024) (k0_off2 d (BitVec.ofNat 32 (128 * r.val))) S128x1024.size (k0_off2_inb d r)
/-- The columns of `x` device `d` keeps. -/
abbrev ROwn (d : Dev nD) : Rect S4096x2048 := Rect.unit (s := S4096x2048) (k0_off3 d) S4096x1024.size (k0_off3_inb d)
/-- Where quarter `r` of the kept columns goes in the result. -/
abbrev RResO (d : Dev nD) (r : Fin 4) : Rect S8192x1024 :=
  Rect.unit (s := S8192x1024) (k1_off1 d (BitVec.ofNat 32 (1024 * r.val))) S1024x1024.size (k1_off1_inb d r)
/-- Where quarter `r` of the received rows goes in the result. -/
abbrev RResE (d : Dev nD) (r : Fin 4) : Rect S8192x1024 :=
  Rect.unit (s := S8192x1024) (k1_off2 d (BitVec.ofNat 32 (1024 * r.val))) S1024x1024.size (k1_off2_inb d r)

theorem words128 (r : Fin 16) : (R128 r).WholeWords (EltTy.packing .bf16) := by revert r; decide +kernel
theorem packed128 (r : Fin 16) : (R128 r).PackedRows (EltTy.packing .bf16) := by revert r; decide +kernel
theorem words256 (r : Fin 16) : (R256 r).WholeWords (EltTy.packing .bf16) := by revert r; decide +kernel
theorem packed256 (r : Fin 16) : (R256 r).PackedRows (EltTy.packing .bf16) := by revert r; decide +kernel
theorem words1024 (r : Fin 4) : (R1024 r).WholeWords (EltTy.packing .bf16) := by revert r; decide +kernel
theorem wordsBn (r : Fin 8) : (RBn r).WholeWords (EltTy.packing .bf16) := by revert r; decide +kernel

/-! ## The slices -/

abbrev peerSrc (d : Dev nD) (r : Fin 16) : Memref sig .tc .hbm S128x1024 .f32 := xM.slice (RPeer d r) (fun _ => rfl)
abbrev peerDst (r : Fin 16) : Memref sig .tc .vmem S128x1024 .f32 := pfM.slice (R128 r) (fun _ => rfl)
abbrev sendSrc (r : Fin 16) : Memref sig .tc .vmem S128x1024 .bf16 := sbM.slice (R128 r) (fun _ => rfl)
abbrev land (d : Dev nD) (r : Fin 16) : Memref sig .tc .hbm S128x1024 .bf16 := exM.slice (RLand d r) (fun _ => rfl)
abbrev ownSrc (d : Dev nD) : Memref sig .tc .hbm S4096x1024 .f32 := xM.slice (ROwn d) (fun _ => rfl)
abbrev ownVm (r : Fin 16) : Memref sig .tc .vmem S256x1024 .bf16 := obM.slice (R256 r) (fun _ => rfl)
abbrev ownDst (r : Fin 16) : Memref sig .tc .hbm S256x1024 .bf16 := owM.slice (R256 r) (fun _ => rfl)
abbrev ownQ (r : Fin 4) : Memref sig .tc .hbm S1024x1024 .bf16 := owM.slice (R1024 r) (fun _ => rfl)
abbrev exQ (r : Fin 4) : Memref sig .tc .hbm S1024x1024 .bf16 := exM.slice (R1024 r) (fun _ => rfl)
abbrev slot (r : Fin 8) : Memref sig .tc .vmem S1024x1024 .bf16 :=
  (bnM.slice (RBn r) (fun _ => rfl)).squeeze S1024x1024 squeezes_S1x1024x1024_S1024x1024
abbrev resO (d : Dev nD) (r : Fin 4) : Memref sig .tc .hbm S1024x1024 .bf16 := outM.slice (RResO d r) (fun _ => rfl)
abbrev resE (d : Dev nD) (r : Fin 4) : Memref sig .tc .hbm S1024x1024 .bf16 := outM.slice (RResE d r) (fun _ => rfl)

/-! ## The semaphores -/

/-- Element `r` of an array of sixteen. -/
abbrev sem16 (a : DmaSems sig S16) (r : Fin 16) : DmaSem sig :=
  ((a.slice (Rect.unit (s := S16) ![r.val] S1.size (inbS r))).squeeze S_ squeezes_S1_S_).sem
/-- Element `r` of an array of eight. -/
abbrev sem8 (a : DmaSems sig S8) (r : Fin 8) : DmaSem sig :=
  ((a.slice (Rect.unit (s := S8) ![r.val] S1.size (inbS8 r))).squeeze S_ squeezes_S1_S_).sem
abbrev cpSem : DmaSem sig :=
  ((cc0_scratch4.slice (Rect.unit (s := S1) ![0] S1.size inb_S1_S1_0)).squeeze S_ squeezes_S1_S_).sem
abbrev barS : Sem sig := (SemArray.scalar (sig.barrier 0 rfl) : Sems sig S_).sem

/-- The y neighbour, as the kernel computes it. -/
abbrev yN (d : Dev nD) : Dev nD := ⟨k0_dev1 d, k0_dev1_lt d⟩
/-- The x neighbour, as the kernel computes it. -/
abbrev xN (d : Dev nD) : Dev nD := ⟨k0_dev2 d, k0_dev2_lt d⟩

/-- A narrowed chunk, as the kernel stores it. -/
def nar128 (v : Vec F S128x1024 .f32) : FVec F S128x1024 .bf16 :=
  shapeCast S128x1024 (truncf .bf16 v bitsLt_bf16_f32) shapeCasts_S128x1024_S128x1024
/-- A narrowed chunk of the kept columns. -/
def nar256 (v : Vec F S256x1024 .f32) : FVec F S256x1024 .bf16 :=
  shapeCast S256x1024 (truncf .bf16 v bitsLt_bf16_f32) shapeCasts_S256x1024_S256x1024

/-! ## The statements of the exchange -/

/-- Start copying chunk `r` of the peer's piece into vector memory. -/
def peerCopy (d : Dev nD) (r : Fin 16) : P F PUnit :=
  Prog.lift (.enqueueDma (peerSrc d r) (.here (peerDst r)) (.dma (sem16 cc0_scratch5 r)) (View.wordExact_bits rfl)
    (View.wordExact_bits rfl) ⟨Or.inl rfl, trivial⟩)

/-- Wait for chunk `r`, narrow it and send it to the y neighbour. -/
def sendY (d : Dev nD) (r : Fin 16) : P F PUnit := do
  Prog.lift (.waitDma2 (sem16 cc0_scratch5 r) (peerSrc d r) (peerDst r) (View.wordExact_bits rfl) (View.wordExact_bits rfl))
  let v : Vec F S128x1024 .f32 ← Prog.lift (.load pfM (R128 r).toLoadRect (View.loadsAt_vmem h_S128x1024))
  let _w : Vec F S128x1024 .bf16 ← Prog.lift (.load sbM (R128 r).toLoadRect (View.loadsAt_vmem h_S128x1024))
  Prog.lift (.store sbM (R128 r) (nar128 v) Finset.univ (View.stores_vmem h_S128x1024
    ((Memref.isWhole_whole cc0_scratch3).storeExact_slice rfl _ (packed128 r)) (fun _ => rfl)) (.inl rfl))
  Prog.lift (.enqueueDma (sendSrc r) (.remote (Dev.tc (yN d)) (land d r) (.dma (sem16 cc0_scratch7 r)))
    (.dma (sem16 cc0_scratch8 r)) ((Memref.isWhole_whole cc0_scratch3).wordExact_slice rfl _ (words128 r))
    ((Memref.isWhole_whole main_v1_0).wordExact_slice rfl _ (k0_off2_wordsbf16 d r)) ⟨⟨rfl, Or.inl rfl⟩, trivial⟩)

/-- Start copying the kept columns into vector memory. -/
def ownCopy (d : Dev nD) : P F PUnit :=
  Prog.lift (.enqueueDma (ownSrc d) (.here ofM) (.dma cpSem) (View.wordExact_bits rfl) (View.wordExact_bits rfl)
    ⟨Or.inl rfl, trivial⟩)

/-- Wait for the kept columns. -/
def ownWait (d : Dev nD) : P F PUnit :=
  Prog.lift (.waitDma2 cpSem (ownSrc d) ofM (View.wordExact_bits rfl) (View.wordExact_bits rfl))

/-- Wait for chunk `r` from the y neighbour and forward it to the x neighbour. -/
def fwdX (d : Dev nD) (r : Fin 16) : P F PUnit := do
  Prog.lift (.waitDma2 (sem16 cc0_scratch8 r) (sendSrc r) (land d r)
    ((Memref.isWhole_whole cc0_scratch3).wordExact_slice rfl _ (words128 r))
    ((Memref.isWhole_whole main_v1_0).wordExact_slice rfl _ (k0_off2_wordsbf16 d r)))
  Prog.lift (.enqueueDma (land d r) (.remote (Dev.tc (xN d)) (land d r) (.dma (sem16 cc0_scratch9 r)))
    (.dma (sem16 cc0_scratch10 r)) ((Memref.isWhole_whole main_v1_0).wordExact_slice rfl _ (k0_off2_wordsbf16 d r))
    ((Memref.isWhole_whole main_v1_0).wordExact_slice rfl _ (k0_off2_wordsbf16 d r)) ⟨⟨rfl, Or.inl rfl⟩, trivial⟩)

/-- Narrow chunk `r` of the kept columns and start copying it out. -/
def ownStore (r : Fin 16) : P F PUnit := do
  let v : Vec F S256x1024 .f32 ← Prog.lift (.load ofM (R256 r).toLoadRect (View.loadsAt_vmem h_S256x1024))
  let _w : Vec F S256x1024 .bf16 ← Prog.lift (.load obM (R256 r).toLoadRect (View.loadsAt_vmem h_S256x1024))
  Prog.lift (.store obM (R256 r) (nar256 v) Finset.univ (View.stores_vmem h_S256x1024
    ((Memref.isWhole_whole cc0_scratch2).storeExact_slice rfl _ (packed256 r)) (fun _ => rfl)) (.inl rfl))
  Prog.lift (.enqueueDma (ownVm r) (.here (ownDst r)) (.dma (sem16 cc0_scratch6 r))
    ((Memref.isWhole_whole cc0_scratch2).wordExact_slice rfl _ (words256 r))
    ((Memref.isWhole_whole main_v1_1).wordExact_slice rfl _ (words256 r)) ⟨Or.inl rfl, trivial⟩)

/-- The forwarding step, then the store of the kept chunk. -/
def fwdOwn (d : Dev nD) (r : Fin 16) : P F PUnit := do
  fwdX d r
  ownStore r

/-- Wait for the chunk the x neighbour forwards. -/
def recvX (d : Dev nD) (r : Fin 16) : P F PUnit :=
  Prog.lift (.waitDma2 (sem16 cc0_scratch10 r) (land d r) (land d r)
    ((Memref.isWhole_whole main_v1_0).wordExact_slice rfl _ (k0_off2_wordsbf16 d r))
    ((Memref.isWhole_whole main_v1_0).wordExact_slice rfl _ (k0_off2_wordsbf16 d r)))

/-- Wait for the ends of the two sends and the store of chunk `r`. -/
def finish (d : Dev nD) (r : Fin 16) : P F PUnit := do
  Prog.lift (.waitDma2 (sem16 cc0_scratch7 r) (land d r) (sendSrc r)
    ((Memref.isWhole_whole main_v1_0).wordExact_slice rfl _ (k0_off2_wordsbf16 d r))
    ((Memref.isWhole_whole cc0_scratch3).wordExact_slice rfl _ (words128 r)))
  Prog.lift (.waitDma2 (sem16 cc0_scratch9 r) (land d r) (land d r)
    ((Memref.isWhole_whole main_v1_0).wordExact_slice rfl _ (k0_off2_wordsbf16 d r))
    ((Memref.isWhole_whole main_v1_0).wordExact_slice rfl _ (k0_off2_wordsbf16 d r)))
  Prog.lift (.waitDma2 (sem16 cc0_scratch6 r) (ownVm r) (ownDst r)
    ((Memref.isWhole_whole cc0_scratch2).wordExact_slice rfl _ (words256 r))
    ((Memref.isWhole_whole main_v1_1).wordExact_slice rfl _ (words256 r)))

/-- Tell both neighbours this device has entered, and wait for both. -/
def meet (d : Dev nD) : P F PUnit := do
  semSignalWord (yN d) barS 1#32
  semSignalWord (xN d) barS 1#32
  semWaitWord barS 2#32

/-- The exchange, compactly. -/
def comm : P F PUnit := do
  let d : Dev nD ← Prog.lift .deviceId
  run (peerCopy d) chunks do
    meet d
    run (sendY d) chunks do
      ownCopy d
      fwdX d 0
      ownWait d
      ownStore 0
      run (fwdOwn d) chunks.tail do
        run (recvX d) chunks do
          run (finish d) chunks (pure ⟨⟩)

set_option maxRecDepth 65536 in
theorem comm_eq (t : Fin cfg0.N) : bodyAt0 (F := F) t = comm := rfl

/-! ## The statements of the assembly -/

abbrev lo (r : Fin 4) : Fin 8 := ⟨r.val, by omega⟩
abbrev hi (r : Fin 4) : Fin 8 := ⟨r.val + 4, by omega⟩

theorem wordsSlot (r : Fin 8) : (slot r).view.WordExact :=
  ((Memref.isWhole_whole cc1_scratch0).wordExact_slice rfl _ (wordsBn r)).reshape _ _

def inO (r : Fin 4) : P F PUnit :=
  Prog.lift (.enqueueDma (ownQ r) (.here (slot (lo r))) (.dma (sem8 cc1_scratch1 (lo r)))
    ((Memref.isWhole_whole main_v1_1).wordExact_slice rfl _ (words1024 r)) (wordsSlot (lo r)) ⟨Or.inl rfl, trivial⟩)
def inE (r : Fin 4) : P F PUnit :=
  Prog.lift (.enqueueDma (exQ r) (.here (slot (hi r))) (.dma (sem8 cc1_scratch1 (hi r)))
    ((Memref.isWhole_whole main_v1_0).wordExact_slice rfl _ (words1024 r)) (wordsSlot (hi r)) ⟨Or.inl rfl, trivial⟩)
def midO (d : Dev nD) (r : Fin 4) : P F PUnit := do
  Prog.lift (.waitDma2 (sem8 cc1_scratch1 (lo r)) (ownQ r) (slot (lo r))
    ((Memref.isWhole_whole main_v1_1).wordExact_slice rfl _ (words1024 r)) (wordsSlot (lo r)))
  Prog.lift (.enqueueDma (slot (lo r)) (.here (resO d r)) (.dma (sem8 cc1_scratch2 (lo r))) (wordsSlot (lo r))
    ((Memref.isWhole_whole main_v2).wordExact_slice rfl _ (k1_off1_wordsbf16 d r)) ⟨Or.inl rfl, trivial⟩)
def midE (d : Dev nD) (r : Fin 4) : P F PUnit := do
  Prog.lift (.waitDma2 (sem8 cc1_scratch1 (hi r)) (exQ r) (slot (hi r))
    ((Memref.isWhole_whole main_v1_0).wordExact_slice rfl _ (words1024 r)) (wordsSlot (hi r)))
  Prog.lift (.enqueueDma (slot (hi r)) (.here (resE d r)) (.dma (sem8 cc1_scratch2 (hi r))) (wordsSlot (hi r))
    ((Memref.isWhole_whole main_v2).wordExact_slice rfl _ (k1_off2_wordsbf16 d r)) ⟨Or.inl rfl, trivial⟩)
def endO (d : Dev nD) (r : Fin 4) : P F PUnit :=
  Prog.lift (.waitDma2 (sem8 cc1_scratch2 (lo r)) (slot (lo r)) (resO d r) (wordsSlot (lo r))
    ((Memref.isWhole_whole main_v2).wordExact_slice rfl _ (k1_off1_wordsbf16 d r)))
def endE (d : Dev nD) (r : Fin 4) : P F PUnit :=
  Prog.lift (.waitDma2 (sem8 cc1_scratch2 (hi r)) (slot (hi r)) (resE d r) (wordsSlot (hi r))
    ((Memref.isWhole_whole main_v2).wordExact_slice rfl _ (k1_off2_wordsbf16 d r)))

/-- The assembly, compactly. -/
def asm : P F PUnit := do
  let d : Dev nD ← Prog.lift .deviceId
  run inO quarters do
    run inE quarters do
      run (midO d) quarters do
        run (midE d) quarters do
          run (endO d) quarters do
            run (endE d) quarters (pure ⟨⟩)

set_option maxRecDepth 65536 in
theorem asm_eq (t : Fin cfg1.N) : bodyAt1 (F := F) t = asm := rfl

end Cert.KernelIdeal.Comm

end
-- ==== Proof.Rules.lean ====
/-
  The steps of a kernel body, one rule each.

  A piece of a buffer is held as `owns`: the piece, at a share, reading known contents. Each rule below says what one
  statement of a body does to what is held: a load reads a piece, a store rewrites one, a local copy takes two pieces and
  gives them back at its wait. Last comes the rule for running the same statement at every number of a list.
-/
module

public import proofs.«01_k».proof.Proof.Compact
public import Idealize.ShloMosaic.Lib.Rounds
public import Idealize.ShloMosaic.Lib.Transfers
public import Idealize.ShloMosaic.Lib.Memref
public import Idealize.ShloMosaic.Lib.Tactic
public import Idealize.ShloMosaic.Lib.Pipeline.Kit

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The ghost algebra -/

/-- The talk protocol's copy of the rounds library: a duty is named by a truth value. -/
abbrev UT : Type := URounds (GSem nD τ sig) Bool
/-- The pipeline library's copy, the protocol's, and the counters of the local transfers. -/
abbrev UU : Type := UR sig nD τ × (UT × Counters)

/-- The assertions' resources. -/
abbrev M (F : FTy → Type) : Type := MT nD τ sig Unit (Elt F) ℕ UU ℕ

abbrev EP : Emb (UR sig nD τ) (M F) := embL
/-- Where the protocol's copy lies. -/
def ER : Emb UT (M F) :=
  ((Emb.inl : Emb UT (UT × Counters)).trans (Emb.inr : Emb (UT × Counters) UU)).trans
    (uEmb (nD := nD) (sig := sig) (Ix := Unit) (Val := Elt F) (Name := ℕ) (U := UU) (Lvl := ℕ)).toEmb
instance ER_landsIn : (ER : Emb UT (M F)).LandsIn (upEmb : UEmb _ (M F)) := by unfold ER; infer_instance

/-- Where the transfers' counters lie. -/
abbrev EC : UEmb Counters (M F) := countersEmb

/-- Device `d`'s body `p` ends in `Q`. -/
abbrev WP {α : Type} (d : Dev nD) (p : P F α) (Q : α → sProp (M F)) : sProp (M F) :=
  wp frame (wpE (defs₀ (F := F)) Variants.none (d : Thread nD τ) none) Set.univ p Q

/-- Device `d` owes `O`, having waited for something. -/
def Owe (d : Dev nD) (O : CellTallies nD τ sig Unit) : sProp (M F) := iprop(∃ W, owes (d : Thread nD τ) O W)

/-- Device `d` may wait on its semaphore `s` while owing `O`. -/
abbrev May (d : Dev nD) (s : SemLoc sig) (O : CellTallies nD τ sig Unit) : sProp (M F) := MayWait (d : Thread nD τ) s () O

/-- A local copy into `dst` under way, to deliver `D`. -/
abbrev Fly {sp : Space} {s : Shape} {e : EltTy} (d : Dev nD) (sm : DmaSem sig) (dst : Memref sig .tc sp s e) (D : sProp (M F)) :
    sProp (M F) :=
  Transfers.Flight EC (d : Thread nD τ) (.dma sm) () dst.view.dmaCredit D

/-! ## Loads and stores -/

section Steps

variable {sp sp' : Space} {s : Shape} {e : EltTy} {cs : CoreSpace} (d : Dev nD)

theorem step_load {m : Memref sig .tc cs s e} {r : Rect s} {hl : m.view.LoadsAt r} (hr : ∀ a, r.stride a = 1)
    {q : PosShare TreeShare} {X : r.shape.Idx → Elt F e} {Q : (r.shape.Idx → Elt F e) → sProp (M F)} :
    iprop(ownsTc d (m.slice r hr) q X ∗ (ownsTc d (m.slice r hr) q X -∗ Q X)) ⊢ WP d (Prog.lift (.load m r hl)) Q := by
  unfold ownsTc owns
  iintro ⟨⟨%f, %hf, H⟩, Hk⟩
  iapply (wp_load_rect Variants.none (d : Thread nD τ) none Set.univ (m := m) (r := r) (S := (m.access r).set)
    (Finset.Subset.refl _)) $$ [H]
  · iexact H
  iintro H
  rw [wp_ret, show (m.access r).read (Elt F) f = X from hf]
  imodintro
  iapply Hk
  iexists f
  isplitr; · ipureintro; exact hf
  iexact H

theorem step_store {m : Memref sig .tc cs s e} {r : Rect s} {w : r.shape.Idx → Elt F e}
    {hx : (m.access r).Stores Finset.univ} {hm : (Finset.univ : Finset r.shape.Idx) = Finset.univ ∨ ∀ a, r.stride a = 1}
    (hr : ∀ a, r.stride a = 1) {X : r.shape.Idx → Elt F e} {Q : PUnit → sProp (M F)} :
    iprop(ownsTc d (m.slice r hr) fullShare X ∗ (ownsTc d (m.slice r hr) fullShare w -∗ Q ⟨⟩))
      ⊢ WP d (Prog.lift (.store m r w Finset.univ hx hm)) Q := by
  unfold ownsTc owns
  iintro ⟨⟨%f, %hf, H⟩, Hk⟩
  iapply (wp_store Variants.none (d : Thread nD τ) none Set.univ (m := m) (r := r) (S := (m.access r).set) (f := f)
    (Finset.Subset.refl _)) $$ [H]
  · iexact H
  iintro H
  rw [wp_ret]
  imodintro
  iapply Hk
  iexists _
  isplitr
  rotate_left
  · iexact H
  · ipureintro; exact View.read_write_univ _ _

/-! ## Local copies -/

theorem step_copy {src : Memref sig .tc sp s e} {dst : Memref sig .tc sp' s e} {sm : DmaSem sig} {h₁ : src.view.WordExact}
    {h₂ : dst.view.WordExact} {h₃ : DmaTarget.Typed (nD := nD) (τ := τ) (p := .tc) sp (.dma sm) (.here dst)} (hN : 0 < dst.view.dmaCredit)
    {q : PosShare TreeShare} {X Y : s.Idx → Elt F e} {Q : PUnit → sProp (M F)} :
    iprop(ownsTc d src q X ∗ ownsTc d dst fullShare Y ∗ semVal (d, SemLoc.dma sm) 0
        ∗ (Fly d sm dst iprop(ownsTc d dst fullShare X ∗ ownsTc d src q X) -∗ Q ⟨⟩))
      ⊢ WP d (Prog.lift (.enqueueDma src (.here dst) (.dma sm) h₁ h₂ h₃)) Q := by
  have hD (f : src.view.ty.Contents (Elt F)) (g : dst.view.ty.Contents (Elt F)) (hf : src.view.read (Elt F) f = X) :
      (iprop((dst.view.loc (d : Thread nD τ) ↦[dst.view.set]{fullShare} (dst.view.write (Elt F) g (src.view.read (Elt F) f) Finset.univ))
          ∗ (src.view.loc (d : Thread nD τ) ↦[src.view.set]{q} f)) : sProp (M F))
        ⊢ iprop(ownsTc d dst fullShare X ∗ ownsTc d src q X) := by
    unfold ownsTc owns
    iintro ⟨Hd, Hs⟩
    isplitl [Hd]
    · iexists _
      isplitr
      rotate_left
      · iexact Hd
      · ipureintro; rw [View.read_write_univ, hf]
    · iexists f
      isplitr; · ipureintro; exact hf
      iexact Hs
  iintro ⟨Hs, Hd, Hv, Hk⟩
  ihave Hs' := (show ownsTc d src q X ⊢ (iprop(∃ f, ⌜src.view.read (Elt F) f = X⌝ ∗ (src.view.loc (d : Thread nD τ) ↦[src.view.set]{q} f)) : sProp (M F)) from .rfl) $$ Hs
  ihave Hd' := (show ownsTc d dst fullShare Y ⊢ (iprop(∃ f, ⌜dst.view.read (Elt F) f = Y⌝ ∗ (dst.view.loc (d : Thread nD τ) ↦[dst.view.set]{fullShare} f)) : sProp (M F)) from .rfl) $$ Hd
  icases Hs' with ⟨%f, %hf, Hs⟩
  icases Hd' with ⟨%g, %hg, Hd⟩
  iapply (Transfers.wp_dmaLocal EC Variants.none (d : Thread nD τ) none (src := src) (dst := dst) (sm := .dma sm) (q := q) (fs := f) (fd := g)
    () dst.view.dmaCredit rfl hN (Finset.Subset.refl _)) $$ [Hs Hd Hv]
  · isplitl [Hs]; · iexact Hs
    isplitl [Hd] <;> iassumption
  iintro Hf
  rw [wp_ret]
  imodintro
  iapply Hk
  iapply (Transfers.Flight_mono EC (d : Thread nD τ) (hD f g hf))
  iexact Hf

theorem step_wait {s' : Shape} {e' : EltTy} {src : Memref sig .tc sp' s' e'} {dst : Memref sig .tc sp s e} {sm : DmaSem sig}
    {h₁ : src.view.WordExact} {h₂ : dst.view.WordExact} {D : sProp (M F)} {O : CellTallies nD τ sig Unit} {Q : PUnit → sProp (M F)} :
    iprop(Fly d sm dst D ∗ Owe d O ∗ May d (.dma sm) O ∗ (D ∗ semVal (d, SemLoc.dma sm) 0 ∗ Owe d O -∗ Q ⟨⟩))
      ⊢ WP d (Prog.lift (.waitDma2 sm src dst h₁ h₂)) Q := by
  unfold Owe
  iintro ⟨Hf, ⟨%W, HO⟩, HM, Hk⟩
  iapply (Transfers.wp_waitLocalO EC Variants.none (d : Thread nD τ) none () (dstw := dst) rfl) $$ [Hf HO HM]
  · isplitl [Hf]; · iexact Hf
    isplitl [HO] <;> iassumption
  iintro ⟨HD, Hv, HO⟩
  rw [wp_ret]
  imodintro
  iapply Hk
  isplitl [HD]; · iexact HD
  isplitl [Hv]; · iexact Hv
  iexists _
  iexact HO

end Steps

/-! ## A memref and one slice of it -/

section Rest

variable {sp : Space} {s : Shape} {e : EltTy} (d : Dev nD) (m : Memref sig .tc sp s e) (r : Rect s) (hr : ∀ a, r.stride a = 1)
  (q : PosShare TreeShare) (X : s.Idx → Elt F e)

/-- What of a memref reading `X` lies outside a slice. -/
def without : sProp (M F) :=
  iprop(∃ f, ⌜m.view.read (Elt F) f = X⌝ ∗ m.view.loc (d : Thread nD τ) ↦[m.view.set \ (m.slice r hr).view.set]{q} f)

theorem slice_out : ownsTc d m q X ⊢ (iprop(ownsTc d (m.slice r hr) q (fun j => X (r.emb j)) ∗ without d m r hr q X) : sProp (M F)) :=
  owns_slice_split (d : Thread nD τ) m q r hr X

theorem slice_in : (iprop(ownsTc d (m.slice r hr) q (fun j => X (r.emb j)) ∗ without d m r hr q X) : sProp (M F)) ⊢ ownsTc d m q X := by
  unfold without
  iintro ⟨Hs, ⟨%f, %hf, Hr⟩⟩
  have h := owns_slice_join (Ix := Unit) (Name := ℕ) (U := UU) (Lvl := ℕ) (d : Thread nD τ) m q r hr (fun j => X (r.emb j)) f
  have hX : r.overlay (m.view.read (Elt F) f) (fun j => X (r.emb j)) = X := by
    funext j
    by_cases hj : j ∈ r.set
    · obtain ⟨i, rfl⟩ := r.exists_idx_of_mem hj
      exact Rect.overlay_emb _ _ _ _
    · rw [Rect.overlay_of_not_mem _ _ _ hj, hf]
  rw [hX] at h
  iapply h
  isplitl [Hs] <;> iassumption

end Rest

/-! ## The same statement at every number of a list -/

/-- If running `f r` takes the state `I (r :: rs)` and the piece `A r` to the state `I rs` and the piece `B r`, running it
    at every number of a list takes all the pieces `A` to all the pieces `B`. -/
theorem wp_run {n : Nat} (d : Dev nD) (f : Fin n → P F PUnit) (I : List (Fin n) → sProp (M F)) (A B : Fin n → sProp (M F))
    (h : ∀ r rs, iprop(I (r :: rs) ∗ A r) ⊢ WP d (f r) (fun _ => iprop(I rs ∗ B r))) :
    ∀ (rs : List (Fin n)), rs.Nodup → ∀ (k : P F PUnit) (Q : PUnit → sProp (M F)),
      iprop(I rs ∗ bigSep rs.toFinset A ∗ (I [] ∗ bigSep rs.toFinset B -∗ WP d k Q)) ⊢ WP d (run f rs k) Q := by
  intro rs
  induction rs with
  | nil =>
    intro _ k Q
    show iprop(I [] ∗ bigSep [].toFinset A ∗ (I [] ∗ bigSep [].toFinset B -∗ WP d k Q)) ⊢ WP d k Q
    iintro ⟨HI, -, Hk⟩
    iapply Hk
    isplitl [HI]; · iexact HI
    rw [List.toFinset_nil, bigSep_empty]; iempintro
  | cons r rs ih =>
    intro hn k Q
    obtain ⟨hr, hn⟩ := List.nodup_cons.mp hn
    have hr' : r ∉ rs.toFinset := fun h => hr (List.mem_toFinset.mp h)
    rw [List.toFinset_cons, bigSep_insert hr', bigSep_insert hr']
    show iprop(I (r :: rs) ∗ (A r ∗ bigSep rs.toFinset A) ∗ (I [] ∗ (B r ∗ bigSep rs.toFinset B) -∗ WP d k Q))
      ⊢ WP d (f r >>= fun _ => run f rs k) Q
    unfold WP
    rw [wp_bind]
    have hw := h r rs
    iintro ⟨HI, ⟨HA, HAs⟩, Hk⟩
    ihave Hw := hw $$ [HI HA]
    · isplitl [HI] <;> iassumption
    iapply (wp_wand_r frame _ Set.univ)
    isplitl [Hw]; · iexact Hw
    iintro %u ⟨HI, HB⟩
    iapply (ih hn k Q)
    isplitl [HI]; · iexact HI
    isplitl [HAs]; · iexact HAs
    iintro ⟨HI, HBs⟩
    iapply Hk
    isplitl [HI]; · iexact HI
    isplitl [HB] <;> iassumption

end Cert.KernelIdeal.Comm

end
-- ==== Proof.Geometry.lean ====
/-
  Where the pieces lie, and what they hold.

  Device `d` of the four is at y half `d % 2` and x half `d / 2`. Its y neighbour differs in the first, its x neighbour in
  the second. The chunks of a buffer are bands of rows: pairwise disjoint, and together the whole buffer. The landing rows
  of the exchange buffer are the chunks of the device's own half and those of its x neighbour's half.
-/
module

public import proofs.«01_k».proof.Proof.Rules
public import Idealize.ShloMosaic.Lib.Pipeline.Value
public import Idealize.ShloMosaic.Lib.Pointwise.Index

@[expose] public section

noncomputable section

namespace Cert.KernelIdeal.Comm

open Idealize.ShloMosaic Idealize.ShloMosaic.TcCoe
open Cert.KernelIdeal.Gen

variable {F : FTy → Type} [FloatOps F]

/-! ## Neighbours -/

theorem yN_val (d : Dev nD) : (yN d).val = 2 * (d.val / 2) + 1 - d.val % 2 := k0_dev1_eq d
theorem xN_val (d : Dev nD) : (xN d).val = d.val % 2 + 2 - 2 * (d.val / 2) := k0_dev2_eq d
theorem dev_lt (d : Dev nD) : d.val < 4 := d.isLt
theorem yN_yN (d : Dev nD) : yN (yN d) = d := by
  apply Fin.ext; have := dev_lt d; rw [yN_val, yN_val]; omega
theorem xN_xN (d : Dev nD) : xN (xN d) = d := by
  apply Fin.ext; have := dev_lt d; rw [xN_val, xN_val]; omega
theorem xN_yN (d : Dev nD) : xN (yN d) = yN (xN d) := by
  apply Fin.ext; have := dev_lt d; rw [xN_val, yN_val, yN_val, xN_val]; omega

/-- The two rows of devices. -/
def side (d : Dev nD) : Fin 2 → Dev nD
  | 0 => d
  | 1 => xN d

/-- A unit rectangle is told by its offsets. -/
theorem unit_eq {s : Shape} {off off' size : Fin s.rank → Nat} (h : off = off') (inb inb') :
    Rect.unit off size inb = Rect.unit off' size inb' := by subst h; rfl

/-- So is the slice at one. -/
theorem slice_unit_eq {sp : Space} {s : Shape} {e : EltTy} (m : Memref sig .tc sp s e) {off off' size : Fin s.rank → Nat}
    (h : off = off') (inb inb') (hr hr') :
    m.slice (Rect.unit off size inb) hr = m.slice (Rect.unit off' size inb') hr' := by subst h; rfl

theorem off2_yN (d : Dev nD) (r : Fin 16) :
    k0_off2 (yN d) (BitVec.ofNat 32 (128 * r.val)) = k0_off2 d (BitVec.ofNat 32 (128 * r.val)) := by
  have := dev_lt d
  rw [k0_off2_eq, k0_off2_eq, yN_val, show (2 * (d.val / 2) + 1 - d.val % 2) / 2 = d.val / 2 by omega]

theorem RLand_yN (d : Dev nD) (r : Fin 16) : RLand (yN d) r = RLand d r := unit_eq (off2_yN d r) _ _

theorem land_yN (d : Dev nD) (r : Fin 16) : land (yN d) r = land d r := slice_unit_eq exM (off2_yN d r) _ _ _ _

/-! ## Bands of rows -/

/-- A family of rectangles that are bands of one height, apart from one another and reaching every coordinate of axis `a`. -/
theorem bands {s : Shape} {T : Type} [Fintype T] (a : Fin s.rank) (r : T → Rect s) (off : T → Nat) (h : Nat)
    (hmem : ∀ t (i : s.Idx), i ∈ (r t).set ↔ off t ≤ (i a).val ∧ (i a).val < off t + h)
    (hsep : ∀ t t', t ≠ t' → off t + h ≤ off t' ∨ off t' + h ≤ off t)
    (hcov : ∀ i, i < s.size a → ∃ t, off t ≤ i ∧ i < off t + h) :
    (∀ t t', t ≠ t' → Disjoint (r t).set (r t').set)
      ∧ (Finset.univ : Finset T).biUnion (fun t => (r t).set) = Finset.univ := by
  constructor
  · intro t t' ht
    rw [Finset.disjoint_left]
    intro i hi hi'
    have := (hmem t i).mp hi
    have := (hmem t' i).mp hi'
    have := hsep t t' ht
    omega
  · ext i
    simp only [Finset.mem_biUnion, Finset.mem_univ, true_and, iff_true]
    obtain ⟨t, h1, h2⟩ := hcov (i a).val (i a).isLt
    exact ⟨t, (hmem t i).mpr ⟨h1, h2⟩⟩

/-- A full-width unit rectangle of a matrix is a band of its rows. -/
theorem mem_band {A B h : Nat} {off : Fin 2 → Nat} {inb} (o : Nat) (ho : off = ![o, 0]) (i : (⟨2, ![A, B]⟩ : Shape).Idx) :
    i ∈ (Rect.unit (s := ⟨2, ![A, B]⟩) off (⟨2, ![h, B]⟩ : Shape).size inb).set ↔ o ≤ (i 0).val ∧ (i 0).val < o + h := by
  subst ho
  rw [Rect.mem_set_unit]
  refine ⟨fun H => H 0, fun H a => ?_⟩
  fin_cases a
  · exact H
  · exact ⟨Nat.zero_le _, (show (i 1).val < 0 + B by rw [Nat.zero_add]; exact (i 1).isLt)⟩

theorem bands128 : (∀ t t', t ≠ t' → Disjoint (R128 t).set (R128 t').set)
    ∧ (Finset.univ : Finset (Fin 16)).biUnion (fun t => (R128 t).set) = Finset.univ :=
  bands (s := S2048x1024) 0 R128 (fun r => 128 * r.val) 128 (fun t i => mem_band _ rfl i)
    (fun t t' ht => by have : t.val ≠ t'.val := fun h => ht (Fin.ext h); omega)
    (fun i hi => ⟨⟨i / 128, by change i < 2048 at hi; omega⟩, by dsimp only; omega, by dsimp only; omega⟩)

theorem bands256 : (∀ t t', t ≠ t' → Disjoint (R256 t).set (R256 t').set)
    ∧ (Finset.univ : Finset (Fin 16)).biUnion (fun t => (R256 t).set) = Finset.univ :=
  bands (s := S4096x1024) 0 R256 (fun r => 256 * r.val) 256 (fun t i => mem_band _ rfl i)
    (fun t t' ht => by have : t.val ≠ t'.val := fun h => ht (Fin.ext h); omega)
    (fun i hi => ⟨⟨i / 256, by change i < 4096 at hi; omega⟩, by dsimp only; omega, by dsimp only; omega⟩)

theorem bands1024 : (∀ t t', t ≠ t' → Disjoint (R1024 t).set (R1024 t').set)
    ∧ (Finset.univ : Finset (Fin 4)).biUnion (fun t => (R1024 t).set) = Finset.univ :=
  bands (s := S4096x1024) 0 R1024 (fun r => 1024 * r.val) 1024 (fun t i => mem_band _ rfl i)
    (fun t t' ht => by have : t.val ≠ t'.val := fun h => ht (Fin.ext h); omega)
    (fun i hi => ⟨⟨i / 1024, by change i < 4096 at hi; omega⟩, by dsimp only; omega, by dsimp only; omega⟩)

theorem bandsBn : (∀ t t', t ≠ t' → Disjoint (RBn t).set (RBn t').set)
    ∧ (Finset.univ : Finset (Fin 8)).biUnion (fun t => (RBn t).set) = Finset.univ :=
  bands (s := S8x1024x1024) 0 RBn (fun r => r.val) 1
    (fun t i => by
      rw [Rect.mem_set_unit]
      refine ⟨fun H => H 0, fun H a => ?_⟩
      fin_cases a
      · exact H
      · exact ⟨Nat.zero_le _, (show (i 1).val < 0 + 1024 by rw [Nat.zero_add]; exact (i 1).isLt)⟩
      · exact ⟨Nat.zero_le _, (show (i 2).val < 0 + 1024 by rw [Nat.zero_add]; exact (i 2).isLt)⟩)
    (fun t t' ht => by have : t.val ≠ t'.val := fun h => ht (Fin.ext h); omega)
    (fun i hi => ⟨⟨i, hi⟩, by dsimp only; omega, by dsimp only; omega⟩)

/-- The landing rows: the chunks of the device's own half, then those of its x neighbour's half. -/
abbrev RL (d : Dev nD) (t : Fin 2 × Fin 16) : Rect S4096x1024 := RLand (side d t.1) t.2

theorem side_half (d : Dev nD) (k : Fin 2) : (side d k).val / 2 = if k = 0 then d.val / 2 else 1 - d.val / 2 := by
  have := dev_lt d
  fin_cases k
  · rfl
  · show (xN d).val / 2 = 1 - d.val / 2
    rw [xN_val]; omega

theorem bandsRL (d : Dev nD) : (∀ t t', t ≠ t' → Disjoint (RL d t).set (RL d t').set)
    ∧ (Finset.univ : Finset (Fin 2 × Fin 16)).biUnion (fun t => (RL d t).set) = Finset.univ := by
  have hd := dev_lt d
  refine bands (s := S4096x1024) 0 (RL d) (fun t => 2048 * ((side d t.1).val / 2) + 128 * t.2.val) 128
    (fun t i => mem_band _ (k0_off2_eq _ _) i) ?_ ?_
  · rintro ⟨k, r⟩ ⟨k', r'⟩ h
    dsimp only
    rw [side_half, side_half]
    by_cases hk : k = k'
    · subst hk
      have : r.val ≠ r'.val := fun e => h (Prod.ext rfl (Fin.ext e))
      omega
    · have : k.val ≠ k'.val := fun e => hk (Fin.ext e)
      split <;> split <;> omega
  · intro i hi
    change i < 4096 at hi
    refine ⟨(if i / 2048 = d.val / 2 then 0 else 1, ⟨i % 2048 / 128, by omega⟩), ?_⟩
    dsimp only
    rw [side_half]
    split <;> rename_i h
    · rw [if_pos rfl]; omega
    · rw [if_neg (by decide)]; omega

/-- The result's rows: the quarters kept, then the quarters received. -/
abbrev RR (d : Dev nD) (t : Fin 2 × Fin 4) : Rect S8192x1024 := match t.1 with
  | 0 => RResO d t.2
  | 1 => RResE d t.2

theorem bandsRR (d : Dev nD) : (∀ t t', t ≠ t' → Disjoint (RR d t).set (RR d t').set)
    ∧ (Finset.univ : Finset (Fin 2 × Fin 4)).biUnion (fun t => (RR d t).set) = Finset.univ := by
  have hd := dev_lt d
  refine bands (s := S8192x1024) 0 (RR d)
    (fun t => if t.1 = 0 then 4096 * (d.val % 2) + 1024 * t.2.val else 1024 * t.2.val + 4096 - 4096 * (d.val % 2)) 1024 ?_ ?_ ?_
  · rintro ⟨k, r⟩ i
    fin_cases k
    · exact mem_band _ (k1_off1_eq _ _) i
    · exact mem_band _ (k1_off2_eq _ _) i
  · rintro ⟨k, r⟩ ⟨k', r'⟩ h
    dsimp only
    by_cases hk : k = k'
    · subst hk
      have : r.val ≠ r'.val := fun e => h (Prod.ext rfl (Fin.ext e))
      split <;> omega
    · have : k.val ≠ k'.val := fun e => hk (Fin.ext e)
      split <;> split <;> omega
  · intro i hi
    change i < 8192 at hi
    refine ⟨(if i / 4096 = d.val % 2 then 0 else 1, ⟨i % 4096 / 1024, by omega⟩), ?_⟩
    dsimp only
    by_cases h : i / 4096 = d.val % 2
    · simp only [if_pos h, if_true]; omega
    · rw [if_neg h, if_neg (by decide)]; omega

end Cert.KernelIdeal.Comm

end
-- ==== Proof.Contents.lean ====
/-
  What the buffers hold, in closed form.

  `X d` is device `d`'s block of the argument: 4096 rows, 2048 columns. After the exchange, device `d` holds its own columns
  narrowed (`owC`) and its y neighbour's half of the rows at the same columns, narrowed (`exC`): rows of the own x half come
  from the y neighbour itself, the others from the device across both axes. The assembly stacks the two in the order of
  the y halves (`resC`).
-/
module

public import proofs.«01_k».proof.Proof.Geometry

@[expose] public section

noncomputable section

namespace Cert.KernelIdeal.Comm

open Idealize.ShloMosaic Idealize.ShloMosaic.TcCoe
open Cert.KernelIdeal.Gen

variable {F : FTy → Type} [FloatOps F]

/-- One number narrowed. -/
def nar1 (v : Elt F .f32) : Elt F .bf16 := FloatOps.truncf .bf16 bitsLt_bf16_f32 v

theorem nar128_apply (v : Vec F S128x1024 .f32) (j : S128x1024.Idx) : nar128 v j = nar1 (v j) := by
  unfold nar128; rw [shapeCast_self]; rfl
theorem nar256_apply (v : Vec F S256x1024 .f32) (j : S256x1024.Idx) : nar256 v j = nar1 (v j) := by
  unfold nar256; rw [shapeCast_self]; rfl

variable (X : Dev nD → S4096x2048.Idx → Elt F .f32)

/-- Chunk `r` of what device `d` sends. -/
def sentC (d : Dev nD) (r : Fin 16) : S128x1024.Idx → Elt F .bf16 := nar128 (fun j => X d ((RPeer d r).emb j))

/-- The columns device `d` keeps. -/
def keptC (d : Dev nD) : S4096x1024.Idx → Elt F .f32 := fun j => X d ((ROwn d).emb j)

/-- The kept columns, narrowed. -/
def owC (d : Dev nD) : S4096x1024.Idx → Elt F .bf16 := fun i => nar1 (keptC X d i)

/-- The device whose block row `i` of the received columns comes from. -/
def srcDev (d : Dev nD) (i : Nat) : Dev nD := ⟨(2 * (i / 2048) + (1 - d.val % 2)) % 4, Nat.mod_lt _ (by decide)⟩

/-- Where in that block element `i` of the received columns comes from. -/
def exIdx (d : Dev nD) (i : S4096x1024.Idx) : S4096x2048.Idx :=
  ix2 (n0 := 4096) (n1 := 2048) (i 0) ⟨1024 * (d.val % 2) + (i 1).val, by have : (i 1).val < 1024 := (i 1).isLt; omega⟩
theorem exIdx_0 (d : Dev nD) (i : S4096x1024.Idx) : (exIdx d i 0).val = (i 0).val := rfl
theorem exIdx_1 (d : Dev nD) (i : S4096x1024.Idx) : (exIdx d i 1).val = 1024 * (d.val % 2) + (i 1).val := rfl

/-- What device `d` receives. -/
def exC (d : Dev nD) : S4096x1024.Idx → Elt F .bf16 := fun i => nar1 (X (srcDev d (i 0).val) (exIdx d i))

/-- The element of its half that element `i` of the result is. -/
def halfIdx (i : S8192x1024.Idx) : S4096x1024.Idx :=
  ix2 (n0 := 4096) (n1 := 1024) ⟨(i 0).val % 4096, Nat.mod_lt _ (by decide)⟩ (i 1)
theorem halfIdx_0 (i : S8192x1024.Idx) : (halfIdx i 0).val = (i 0).val % 4096 := rfl
theorem halfIdx_1 (i : S8192x1024.Idx) : (halfIdx i 1).val = (i 1).val := rfl

/-- The result of device `d`, from what it received and what it kept. -/
def resC (d : Dev nD) (E O : S4096x1024.Idx → Elt F .bf16) : S8192x1024.Idx → Elt F .bf16 :=
  fun i => (if (i 0).val / 4096 = d.val % 2 then O else E) (halfIdx i)

theorem idx2_ext {A B : Nat} {i j : (⟨2, ![A, B]⟩ : Shape).Idx} (h0 : (i 0).val = (j 0).val) (h1 : (i 1).val = (j 1).val) : i = j := by
  funext a
  apply Fin.ext
  fin_cases a
  · exact h0
  · exact h1

/-- The element of a unit rectangle of a matrix, by its offsets. -/
theorem emb_0 {A B : Nat} {off size : Fin 2 → Nat} {inb} (o : Nat) (p : Nat) (ho : off = ![o, p]) (j) :
    ((Rect.unit (s := ⟨2, ![A, B]⟩) off size inb).emb j 0 : Nat) = o + j 0 := by
  subst ho; rw [Rect.emb_apply, Rect.stride_unit, Nat.one_mul]; rfl
theorem emb_1 {A B : Nat} {off size : Fin 2 → Nat} {inb} (o : Nat) (p : Nat) (ho : off = ![o, p]) (j) :
    ((Rect.unit (s := ⟨2, ![A, B]⟩) off size inb).emb j 1 : Nat) = p + j 1 := by
  subst ho; rw [Rect.emb_apply, Rect.stride_unit, Nat.one_mul]; rfl

theorem sentC_apply (d : Dev nD) (r : Fin 16) (j : S128x1024.Idx) : sentC X d r j = nar1 (X d ((RPeer d r).emb j)) := by
  unfold sentC; rw [nar128_apply]

/-- The rows landing in one half are the chunks their sender sent. -/
theorem exC_side (d : Dev nD) (k : Fin 2) (r : Fin 16) :
    (fun j => exC X d ((RLand (side d k) r).emb j)) = sentC X (yN (side d k)) r := by
  funext j
  rw [sentC_apply]
  unfold exC
  have hd := dev_lt d
  have hs := side_half d k
  have hm : (side d k).val % 2 = d.val % 2 := by
    fin_cases k
    · rfl
    · show (xN d).val % 2 = d.val % 2
      rw [xN_val]; omega
  have hy := yN_val (side d k)
  have hl := dev_lt (side d k)
  have hj : (j 0).val < 128 := (j 0).isLt
  have e0 := emb_0 (A := 4096) (B := 1024) (inb := k0_off2_inb (side d k) r) _ _ (k0_off2_eq (side d k) r) j
  have e1 := emb_1 (A := 4096) (B := 1024) (inb := k0_off2_inb (side d k) r) _ _ (k0_off2_eq (side d k) r) j
  have p0 := emb_0 (A := 4096) (B := 2048) (inb := k0_off1_inb (yN (side d k)) r) _ _ (k0_off1_eq (yN (side d k)) r) j
  have p1 := emb_1 (A := 4096) (B := 2048) (inb := k0_off1_inb (yN (side d k)) r) _ _ (k0_off1_eq (yN (side d k)) r) j
  have hdev : srcDev d ((RLand (side d k) r).emb j 0).val = yN (side d k) := by
    apply Fin.ext
    unfold srcDev
    dsimp only
    rw [e0, k0_dev1_eq]
    omega
  rw [hdev]
  congr 2
  refine idx2_ext ?_ ?_
  · rw [exIdx_0, e0, p0, hy]; omega
  · rw [exIdx_1, e1, p1, hy]; omega

/-- A chunk of the kept columns, narrowed. -/
theorem owC_chunk (d : Dev nD) (r : Fin 16) :
    nar256 (fun j => keptC X d ((R256 r).emb j)) = fun j => owC X d ((R256 r).emb j) := by
  funext j; rw [nar256_apply]; rfl

theorem resC_own (d : Dev nD) (E O : S4096x1024.Idx → Elt F .bf16) (r : Fin 4) :
    (fun j => resC d E O ((RResO d r).emb j)) = fun j => O ((R1024 r).emb j) := by
  funext j
  unfold resC
  have hd := dev_lt d
  have hj : (j 0).val < 1024 := (j 0).isLt
  have e0 := emb_0 (A := 8192) (B := 1024) (inb := k1_off1_inb d r) _ _ (k1_off1_eq d r) j
  have e1 := emb_1 (A := 8192) (B := 1024) (inb := k1_off1_inb d r) _ _ (k1_off1_eq d r) j
  have q0 := emb_0 (A := 4096) (B := 1024) (inb := inb1024 r) _ _ rfl j
  have q1 := emb_1 (A := 4096) (B := 1024) (inb := inb1024 r) _ _ rfl j
  rw [if_pos (by rw [e0]; omega)]
  congr 1
  refine idx2_ext ?_ ?_
  · rw [halfIdx_0, e0, q0]; omega
  · rw [halfIdx_1, e1, q1]

theorem resC_ex (d : Dev nD) (E O : S4096x1024.Idx → Elt F .bf16) (r : Fin 4) :
    (fun j => resC d E O ((RResE d r).emb j)) = fun j => E ((R1024 r).emb j) := by
  funext j
  unfold resC
  have hd := dev_lt d
  have hj : (j 0).val < 1024 := (j 0).isLt
  have e0 := emb_0 (A := 8192) (B := 1024) (inb := k1_off2_inb d r) _ _ (k1_off2_eq d r) j
  have e1 := emb_1 (A := 8192) (B := 1024) (inb := k1_off2_inb d r) _ _ (k1_off2_eq d r) j
  have q0 := emb_0 (A := 4096) (B := 1024) (inb := inb1024 r) _ _ rfl j
  have q1 := emb_1 (A := 4096) (B := 1024) (inb := inb1024 r) _ _ rfl j
  rw [if_neg (by rw [e0]; omega)]
  congr 1
  refine idx2_ext ?_ ?_
  · rw [halfIdx_0, e0, q0]; omega
  · rw [halfIdx_1, e1, q1]

end Cert.KernelIdeal.Comm

end
-- ==== Proof.Schedule.lean ====
/-
  The protocol of the exchange, as a schedule of rounds.

  Every device's barrier has one round of two units: one from the y neighbour (duty `false`) and one from the x neighbour
  (duty `true`). With its unit a neighbour hands over its own landing rows and the fact that the semaphores they will be
  credited on are open. Each of the sixty-four transfer semaphores has one round of one duty, paid by one transfer: on the
  sender's side it gives the source back, on the receiver's side it gives the landed rows, at what they hold.
-/
module

public import proofs.«01_k».proof.Proof.Contents

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The cells -/

/-- The transfer semaphores: `0` the end of a send to the y neighbour, `1` an arrival from it, `2` the end of a send to
    the x neighbour, `3` an arrival from it. -/
abbrev talk (k : Fin 4) (r : Fin 16) : DmaSem sig :=
  match k with
  | 0 => sem16 cc0_scratch7 r
  | 1 => sem16 cc0_scratch8 r
  | 2 => sem16 cc0_scratch9 r
  | 3 => sem16 cc0_scratch10 r

theorem talk_val (k : Fin 4) (r : Fin 16) : (talk k r : Fin 113).val = 33 + 16 * k.val + r.val := by
  revert k r; decide +kernel

abbrev barCell (d : Dev nD) : GSem nD τ sig := ((d : Thread nD τ), .reg barS)
abbrev cell (k : Fin 4) (d : Dev nD) (r : Fin 16) : GSem nD τ sig := ((d : Thread nD τ), .dma (talk k r))

theorem cell_inj {k k' : Fin 4} {d d' : Dev nD} {r r' : Fin 16} (h : cell k d r = cell k' d' r') : k = k' ∧ d = d' ∧ r = r' := by
  have h1 : (d : Thread nD τ) = (d' : Thread nD τ) := congrArg Prod.fst h
  have h2 : SemLoc.dma (talk k r) = (SemLoc.dma (talk k' r') : SemLoc sig) := congrArg Prod.snd h
  have h3 : talk k r = talk k' r' := by injection h2
  have h4 : 33 + 16 * k.val + r.val = 33 + 16 * k'.val + r'.val := by rw [← talk_val, ← talk_val, h3]
  have hr := r.isLt
  have hr' := r'.isLt
  refine ⟨Fin.ext (by omega), congrArg Prod.fst h1, Fin.ext (by omega)⟩

/-- The units of one transfer. -/
abbrev N : ℕ := (land 0 0).view.dmaCredit
theorem N_pos : 0 < N := View.dmaCredit_pos _ (by decide)
theorem N_land (d : Dev nD) (r : Fin 16) : (land d r).view.dmaCredit = N := rfl
theorem N_send (r : Fin 16) : (sendSrc r).view.dmaCredit = N := rfl

/-- Which transfer semaphore this is, if one. -/
def what (s : Fin 113) : Option (Fin 4 × Fin 16) :=
  if h : 33 ≤ s.val ∧ s.val < 97 then some (⟨(s.val - 33) / 16, by omega⟩, ⟨(s.val - 33) % 16, by omega⟩) else none

theorem what_talk (k : Fin 4) (r : Fin 16) : what (talk k r) = some (k, r) := by
  revert k r; decide +kernel

/-! ## What is handed over -/

variable (X : Dev nD → S4096x2048.Idx → Elt F .f32)

/-- A neighbour `p` of device `d` hands over its rows where chunks of `d` land, and that they may be credited. -/
def barPay (d p : Dev nD) (k : Fin 4) : sProp (M F) :=
  bigSep Finset.univ fun r : Fin 16 => iprop((∃ Y, ownsTc p (land d r) fullShare Y) ∗ reached ER (cell k p r) 0)

/-- What the transfers hand over, to the owner of their semaphore. -/
def pay (k : Fin 4) (d : Dev nD) (r : Fin 16) : sProp (M F) :=
  match k with
  | 0 => ownsTc d (sendSrc r) fullShare (sentC X d r)
  | 1 => ownsTc d (land d r) fullShare (sentC X (yN d) r)
  | 2 => ownsTc d (land d r) fullShare (sentC X (yN d) r)
  | 3 => ownsTc d (land (xN d) r) fullShare (sentC X (yN (xN d)) r)

/-- The schedule. -/
def Rd : Rounds.Schedule (GSem nD τ sig) Bool (M F) where
  duties g r :=
    if r = 0 ∧ g.1.2 = .tc then
      match g.2 with
      | .reg _ => {false, true}
      | .dma s => if (what s).isSome then {false} else ∅
    else ∅
  unitless _ := False
  amount g _ _ :=
    match g.2 with
    | .reg _ => 1
    | .dma _ => N
  payload g _ b :=
    match g.2 with
    | .reg _ => if b then barPay g.1.1 (xN g.1.1) 3 else barPay g.1.1 (yN g.1.1) 1
    | .dma s =>
      match what s with
      | some kr => pay X kr.1 g.1.1 kr.2
      | none => iprop(emp)
  amount_pos g _ _ _ := by
    rcases g with ⟨t, s | s⟩
    · exact Nat.one_pos
    · exact N_pos

instance pay_storable (k : Fin 4) (d : Dev nD) (r : Fin 16) : BI.Storable (upEmb : UEmb _ (M F)) (pay X k d r) := by
  unfold pay ownsTc owns
  split <;> infer_instance

instance barPay_storable (d p : Dev nD) (k : Fin 4) : BI.Storable (upEmb : UEmb _ (M F)) (barPay (F := F) d p k) := by
  unfold barPay ownsTc owns
  infer_instance

instance Rd_storable (g : GSem nD τ sig) (r : ℕ) (b : Bool) : BI.Storable (upEmb : UEmb _ (M F)) ((Rd X).payload g r b) := by
  rcases g with ⟨t, s | s⟩
  · show BI.Storable upEmb (if b then barPay t.1 (xN t.1) 3 else barPay t.1 (yN t.1) 1)
    split <;> infer_instance
  · show BI.Storable upEmb (match what s with | some kr => pay X kr.1 t.1 kr.2 | none => iprop(emp))
    split <;> infer_instance

section Facts

variable (d : Dev nD) (k : Fin 4) (r : Fin 16)

theorem duties_bar : (Rd X).duties (barCell d) 0 = {false, true} := rfl
theorem duties_cell : (Rd X).duties (cell k d r) 0 = {false} := by
  show (if (0 : ℕ) = 0 ∧ (d : Thread nD τ).2 = .tc then (if (what (talk k r)).isSome then ({false} : Finset Bool) else ∅) else ∅) = _
  rw [what_talk, if_pos ⟨rfl, rfl⟩]; rfl
theorem duties_later (g : GSem nD τ sig) : ∀ n, 1 ≤ n → (Rd X).duties g n = ∅ :=
  fun n hn => by dsimp only [Rd]; rw [if_neg (fun h => by omega)]
theorem expect_bar : (Rd X).expect (barCell d) 0 = 2 := rfl
theorem amount_cell (b : Bool) : (Rd X).amount (cell k d r) 0 b = N := rfl
theorem expect_cell : (Rd X).expect (cell k d r) 0 = N := by
  unfold Schedule.expect Schedule.amountOf; rw [duties_cell, Finset.sum_singleton]; rfl
theorem payload_cell (b : Bool) : (Rd X).payload (cell k d r) 0 b = pay X k d r := by
  show (match what (talk k r) with | some kr => pay X kr.1 d kr.2 | none => iprop(emp)) = pay X k d r
  rw [what_talk]
theorem rest_cell : bigSep ((Rd X).duties (cell k d r) 0 \ ∅) (fun b => (Rd X).payload (cell k d r) 0 b) = pay X k d r := by
  rw [Finset.sdiff_empty, duties_cell, bigSep_singleton, payload_cell]
theorem rest_bar : bigSep ((Rd X).duties (barCell d) 0 \ ∅) (fun b => (Rd X).payload (barCell d) 0 b)
    = iprop(barPay d (yN d) 1 ∗ barPay d (xN d) 3) := by
  rw [Finset.sdiff_empty, duties_bar, bigSep_insert (by decide), bigSep_singleton]
  rfl

end Facts

/-! ## What is owed, and the levels -/

/-- Still to be sent to the y neighbour. -/
def OY (d : Dev nD) : List (Fin 16) → CellTallies nD τ sig Unit
  | [] => 0
  | r :: rs => OY d rs + tallyAt (cell 1 (yN d) r) () N
/-- Still to be sent to the x neighbour. -/
def OX (d : Dev nD) : List (Fin 16) → CellTallies nD τ sig Unit
  | [] => 0
  | r :: rs => OX d rs + tallyAt (cell 3 (xN d) r) () N

/-- What a device owes while it sends to the y neighbour. -/
def OS (d : Dev nD) (rs : List (Fin 16)) : CellTallies nD τ sig Unit := OX d chunks + OY d rs
/-- What a device owes at launch. -/
def O₀ (d : Dev nD) : CellTallies nD τ sig Unit :=
  OS d chunks + tallyAt (barCell (xN d)) () 1 + tallyAt (barCell (yN d)) () 1

def L (g : GSem nD τ sig) : Finset Unit := if g.1.2 = .tc then {()} else ∅
/-- The barrier below the arrivals from y below the arrivals from x; every other semaphore at the bottom. -/
def lv (g : GSem nD τ sig) (_ : Unit) : ℕ :=
  match g.2 with
  | .reg _ => 1
  | .dma s =>
    match what s with
    | some kr => if kr.1 = 1 then 2 else if kr.1 = 3 then 3 else 0
    | none => 0

theorem L_tc (d : Dev nD) (s : SemLoc sig) : L ((d : Thread nD τ), s) = {()} := if_pos rfl
theorem lv_bar (d : Dev nD) : lv (barCell d) () = 1 := rfl
theorem lv_cell1 (d : Dev nD) (r : Fin 16) : lv (cell 1 d r) () = 2 := by
  show (match what (talk 1 r) with | some kr => if kr.1 = 1 then 2 else if kr.1 = 3 then 3 else 0 | none => 0) = 2
  rw [what_talk]
  rfl
theorem lv_cell3 (d : Dev nD) (r : Fin 16) : lv (cell 3 d r) () = 3 := by
  show (match what (talk 3 r) with | some kr => if kr.1 = 1 then 2 else if kr.1 = 3 then 3 else 0 | none => 0) = 3
  rw [what_talk]
  rfl

/-- A sum of what two give is positive only where one of them is. -/
theorem tally_pos {g g' : GSem nD τ sig} {u : Unit} {n : ℕ} (h : 0 < (tallyAt g' () n : CellTallies nD τ sig Unit) g u) : g = g' := by
  rw [tallyAt_apply] at h
  by_contra hn
  rw [if_neg (fun hh => hn hh.1)] at h
  exact absurd h (Nat.lt_irrefl 0)

theorem OY_pos (d : Dev nD) (rs : List (Fin 16)) {g : GSem nD τ sig} {u : Unit} (h : 0 < OY d rs g u) : ∃ r, g = cell 1 (yN d) r := by
  induction rs with
  | nil => exact absurd h (Nat.lt_irrefl 0)
  | cons r rs ih =>
    rcases Nat.add_pos_iff_pos_or_pos.mp (show 0 < OY d rs g u + (tallyAt (cell 1 (yN d) r) () N : CellTallies nD τ sig Unit) g u from h) with h | h
    · exact ih h
    · exact ⟨r, tally_pos h⟩
theorem OX_pos (d : Dev nD) (rs : List (Fin 16)) {g : GSem nD τ sig} {u : Unit} (h : 0 < OX d rs g u) : ∃ r, g = cell 3 (xN d) r := by
  induction rs with
  | nil => exact absurd h (Nat.lt_irrefl 0)
  | cons r rs ih =>
    rcases Nat.add_pos_iff_pos_or_pos.mp (show 0 < OX d rs g u + (tallyAt (cell 3 (xN d) r) () N : CellTallies nD τ sig Unit) g u from h) with h | h
    · exact ih h
    · exact ⟨r, tally_pos h⟩
theorem OS_pos (d : Dev nD) (rs : List (Fin 16)) {g : GSem nD τ sig} {u : Unit} (h : 0 < OS d rs g u) :
    (∃ r, g = cell 1 (yN d) r) ∨ ∃ r, g = cell 3 (xN d) r := by
  rcases Nat.add_pos_iff_pos_or_pos.mp (show 0 < OX d chunks g u + OY d rs g u from h) with h | h
  · exact .inr (OX_pos d chunks h)
  · exact .inl (OY_pos d rs h)

/-- A device may wait below everything it owes. -/
theorem may (d : Dev nD) (s : SemLoc sig) (n : ℕ) (hs : lv ((d : Thread nD τ), s) () ≤ n) (O : CellTallies nD τ sig Unit)
    (hO : ∀ (g : GSem nD τ sig) (u : Unit), 0 < O g u → g.1.2 = .tc ∧ n < lv g ()) :
    (levAts L lv : sProp (M F)) ⊢ May d s O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-- Below the arrivals, a device that still sends to both neighbours may wait. -/
theorem may_OS (d : Dev nD) (s : SemLoc sig) (hs : lv ((d : Thread nD τ), s) () ≤ 1) (rs : List (Fin 16)) :
    (levAts L lv : sProp (M F)) ⊢ May d s (OS d rs) :=
  may d s 1 hs _ fun g u h => by
    rcases OS_pos d rs h with ⟨r, rfl⟩ | ⟨r, rfl⟩
    · exact ⟨rfl, by rw [lv_cell1]; decide⟩
    · exact ⟨rfl, by rw [lv_cell3]; decide⟩
/-- Below the arrivals from x, a device that still sends to the x neighbour may wait. -/
theorem may_OX (d : Dev nD) (s : SemLoc sig) (hs : lv ((d : Thread nD τ), s) () ≤ 2) (rs : List (Fin 16)) :
    (levAts L lv : sProp (M F)) ⊢ May d s (OX d rs) :=
  may d s 2 hs _ fun g u h => by
    obtain ⟨r, rfl⟩ := OX_pos d rs h
    exact ⟨rfl, by rw [lv_cell3]; decide⟩
theorem may_0 (d : Dev nD) (s : SemLoc sig) : ⊢ (May d s 0 : sProp (M F)) := by
  rw [show (May d s 0 : sProp (M F)) = BI.emp from MayWait_zero _ _ _]
  exact Entails.rfl

end Cert.KernelIdeal.Comm

end
-- ==== Proof.TalkRules.lean ====
/-
  The statements that talk, one rule each: telling a neighbour, meeting both, sending a chunk, and waiting for one transfer.
-/
module

public import proofs.«01_k».proof.Proof.Schedule

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
variable (X : Dev nD → S4096x2048.Idx → Elt F .f32) (K : GSem nD τ sig → ℕ)

/-! ## The invariants of all the cells -/

def barEmb : Dev nD ↪ GSem nD τ sig := ⟨barCell, fun a b h => congrArg (fun g : GSem nD τ sig => g.1.1) h⟩
def cellEmb : Dev nD × (Fin 4 × Fin 16) ↪ GSem nD τ sig :=
  ⟨fun t => cell t.2.1 t.1 t.2.2, fun a b h => by
    obtain ⟨h1, h2, h3⟩ := cell_inj h
    exact Prod.ext h2 (Prod.ext h1 h3)⟩

/-- The barriers. -/
def barCells : Finset (GSem nD τ sig) := Finset.univ.map barEmb
/-- The transfer semaphores. -/
def xferCells : Finset (GSem nD τ sig) := Finset.univ.map cellEmb

theorem mem_bar (d : Dev nD) : barCell d ∈ barCells := Finset.mem_map.mpr ⟨d, Finset.mem_univ _, rfl⟩
theorem mem_cell (k : Fin 4) (d : Dev nD) (r : Fin 16) : cell k d r ∈ xferCells :=
  Finset.mem_map.mpr ⟨(d, (k, r)), Finset.mem_univ _, rfl⟩

/-- Every cell runs the schedule, at the name it was given. -/
def records : sProp (M F) := bigSep (barCells ∪ xferCells) fun g => cellInv ER (Rd X) (K g) g
instance records_persistent : BI.Persistent (records X K) := by unfold records; infer_instance

theorem inv_bar (d : Dev nD) : records X K ⊢ cellInv ER (Rd X) (K (barCell d)) (barCell d) :=
  bigSep_elim (Finset.mem_union_left _ (mem_bar d))
theorem inv_cell (k : Fin 4) (d : Dev nD) (r : Fin 16) : records X K ⊢ cellInv ER (Rd X) (K (cell k d r)) (cell k d r) :=
  bigSep_elim (Finset.mem_union_right _ (mem_cell k d r))

/-- A transfer semaphore whose round is over goes back, at zero. -/
theorem cell_done (k : Fin 4) (d : Dev nD) (r : Fin 16) :
    iprop(records X K ∗ atPos ER (cell k d r) 1 ∅ 0) ⊢ (|={Set.univ}=> semVal (cell k d r) 0 : sProp (M F)) := by
  iintro ⟨#HR, Ha⟩
  ihave #Hi := (inv_cell X K k d r) $$ HR
  iapply (Rounds.cell_close ER (Rd X) (κ := K (cell k d r)) (Set.mem_univ _) id (duties_later X _))
  isplitr; · iexact Hi
  iexact Ha
theorem bar_done (d : Dev nD) :
    iprop(records X K ∗ atPos ER (barCell d) 1 ∅ 0) ⊢ (|={Set.univ}=> semVal (barCell d) 0 : sProp (M F)) := by
  iintro ⟨#HR, Ha⟩
  ihave #Hi := (inv_bar X K d) $$ HR
  iapply (Rounds.cell_close ER (Rd X) (κ := K (barCell d)) (Set.mem_univ _) id (duties_later X _))
  isplitr; · iexact Hi
  iexact Ha

/-! ## The rules -/

variable (d p : Dev nD)

theorem step_signal (b : Bool) (O : CellTallies nD τ sig Unit) {Q : PUnit → sProp (M F)} :
    iprop(records X K ∗ Owe d (O + tallyAt (barCell p) () 1) ∗ dutyTok ER (barCell p) 0 b ∗ reached ER (barCell p) 0
        ∗ (Rd X).payload (barCell p) 0 b ∗ (Owe d O -∗ Q ⟨⟩))
      ⊢ WP d (semSignalWord p barS 1#32) Q := by
  unfold Owe
  iintro ⟨#HR, ⟨%W, HO⟩, Ht, Hr, Hp, Hk⟩
  ihave #Hi := (inv_bar X K p) $$ HR
  iapply (Rounds.wp_signal Variants.none ER (Rd X) (d : Thread nD τ) none (dst := (p : Thread nD τ)) (sem := barS) (r := 0) (d := b)
    (κ := K (barCell p)) (k := .ret) (by rw [duties_bar]; cases b <;> decide) (show _ = 1 from rfl) () O rfl) $$ [HO Ht Hr Hp]
  · isplitr; · iexact Hi
    isplitl [HO]; · iexact HO
    isplitl [Ht]; · iexact Ht
    isplitl [Hp] <;> iassumption
  iintro HO
  rw [wp_ret]
  imodintro
  iapply Hk
  iexists W
  iexact HO

theorem step_meet (O : CellTallies nD τ sig Unit) {Q : PUnit → sProp (M F)} :
    iprop(records X K ∗ Owe d O ∗ May d (.reg barS) O ∗ cred (tallyAt (barCell d) () 2) ∗ atPos ER (barCell d) 0 ∅ 0
        ∗ (Owe d O ∗ semVal (barCell d) 0 ∗ barPay d (yN d) 1 ∗ barPay d (xN d) 3 -∗ Q ⟨⟩))
      ⊢ WP d (semWaitWord barS 2#32) Q := by
  unfold Owe
  iintro ⟨#HR, ⟨%W, HO⟩, HM, Hc, Ha, Hk⟩
  ihave #Hi := (inv_bar X K d) $$ HR
  iapply (Rounds.wp_wait_rest_token Variants.none ER (Rd X) (d : Thread nD τ) none (κ := K (barCell d)) (sm := .reg barS) (k' := 2)
      (wpE_semWait_eq Variants.none (d : Thread nD τ) none Set.univ) (Set.mem_univ _) (k := .ret) () (O := O) (W := W) (R := 0) (m := 0)
      (T := ∅) (expect_bar X d).symm) $$ [HO HM Hc Ha]
  · isplitr; · iexact Hi
    isplitl [Hc]; · iexact Hc
    isplitl [HO]; · iexact HO
    isplitl [HM] <;> iassumption
  iintro ⟨HO, Ha, -, Hp⟩
  ihave Hp := (Entails.of_eq (rest_bar X d)) $$ Hp
  rw [wp_ret]
  imod (bar_done X K d) $$ [Ha] with Hv
  · isplitr; · iexact HR
    iexact Ha
  imodintro
  iapply Hk
  isplitl [HO]; · iexists _; iexact HO
  isplitl [Hv] <;> iassumption

theorem step_recv {sp sp' : Space} {s s' : Shape} {e e' : EltTy} (k : Fin 4) (r : Fin 16) (O : CellTallies nD τ sig Unit)
    {src : Memref sig .tc sp' s' e'} {dst : Memref sig .tc sp s e} {sm : DmaSem sig} (hs : sm = talk k r) (hN : dst.view.dmaCredit = N)
    {h₁ : src.view.WordExact} {h₂ : dst.view.WordExact} {Q : PUnit → sProp (M F)} :
    iprop(records X K ∗ Owe d O ∗ May d (.dma sm) O ∗ cred (tallyAt (cell k d r) () N) ∗ atPos ER (cell k d r) 0 ∅ 0
        ∗ (Owe d O ∗ semVal (cell k d r) 0 ∗ pay X k d r -∗ Q ⟨⟩))
      ⊢ WP d (Prog.lift (.waitDma2 sm src dst h₁ h₂)) Q := by
  subst hs
  unfold Owe
  iintro ⟨#HR, ⟨%W, HO⟩, HM, Hc, Ha, Hk⟩
  ihave #Hi := (inv_cell X K k d r) $$ HR
  iapply (Rounds.wp_wait_rest_token Variants.none ER (Rd X) (d : Thread nD τ) none (κ := K (cell k d r)) (sm := .dma (talk k r)) (k' := N)
      (fun Kt => (wpE_waitDma2_eq Variants.none (d : Thread nD τ) none Set.univ Kt).trans (by rw [hN])) (Set.mem_univ _) (k := .ret) () (O := O) (W := W) (R := 0) (m := 0)
      (T := ∅) ((Nat.zero_add N).trans (expect_cell X d k r).symm)) $$ [HO HM Hc Ha]
  · isplitr; · iexact Hi
    isplitl [Hc]; · iexact Hc
    isplitl [HO]; · iexact HO
    isplitl [HM] <;> iassumption
  iintro ⟨HO, Ha, -, Hp⟩
  ihave Hp := (Entails.of_eq (rest_cell X d k r)) $$ Hp
  rw [wp_ret]
  imod (cell_done X K k d r) $$ [Ha] with Hv
  · isplitr; · iexact HR
    iexact Ha
  imodintro
  iapply Hk
  isplitl [HO]; · iexists _; iexact HO
  isplitl [Hv] <;> iassumption

theorem step_send {sp sp' : Space} (k₁ k₂ : Fin 4) (r : Fin 16) (O : CellTallies nD τ sig Unit)
    {src : Memref sig .tc sp' S128x1024 .bf16} {dst : Memref sig .tc sp S128x1024 .bf16} {hsc : dst.view.ref.isScScratch = false}
    {sS sm : DmaSem sig} (hsS : sS = talk k₁ r)
    (hsm : sm = talk k₂ r) (hN : dst.view.dmaCredit = N) {h₁ : src.view.WordExact} {h₂ : dst.view.WordExact}
    {h₃ : DmaTarget.Typed (nD := nD) (τ := τ) (p := .tc) sp' (.dma sm) (.remote (Dev.tc p) dst (.dma sS) hsc)}
    {C : S128x1024.Idx → Elt F .bf16}
    (hp₁ : ownsTc d src fullShare C ⊢ pay X k₁ d r) (hp₂ : ownsTc p dst fullShare C ⊢ pay X k₂ p r) {Q : PUnit → sProp (M F)} :
    iprop(records X K ∗ Owe d (O + tallyAt (cell k₂ p r) () N) ∗ ownsTc d src fullShare C ∗ (∃ Y, ownsTc p dst fullShare Y)
        ∗ dutyTok ER (cell k₁ d r) 0 false ∗ reached ER (cell k₁ d r) 0
        ∗ dutyTok ER (cell k₂ p r) 0 false ∗ reached ER (cell k₂ p r) 0
        ∗ (Owe d O ∗ cred (tallyAt (cell k₁ d r) () N) -∗ Q ⟨⟩))
      ⊢ WP d (Prog.lift (.enqueueDma src (.remote (Dev.tc p) dst (.dma sS) hsc) (.dma sm) h₁ h₂ h₃)) Q := by
  subst hsS hsm
  unfold Owe
  iintro ⟨#HR, ⟨%W, HO⟩, Hs, ⟨%Y, Hd⟩, Ht₁, Hr₁, Ht₂, Hr₂, Hk⟩
  ihave #Hi₁ := (inv_cell X K k₁ d r) $$ HR
  ihave #Hi₂ := (inv_cell X K k₂ p r) $$ HR
  ihave Hs' := (show ownsTc d src fullShare C ⊢ (iprop(∃ f, ⌜src.view.read (Elt F) f = C⌝ ∗ (src.view.loc (d : Thread nD τ) ↦[src.view.set]{fullShare} f)) : sProp (M F)) from .rfl) $$ Hs
  ihave Hd' := (show ownsTc p dst fullShare Y ⊢ (iprop(∃ f, ⌜dst.view.read (Elt F) f = Y⌝ ∗ (dst.view.loc (p : Thread nD τ) ↦[dst.view.set]{fullShare} f)) : sProp (M F)) from .rfl) $$ Hd
  icases Hs' with ⟨%f, %hf, Hs⟩
  icases Hd' with ⟨%g, %hg, Hd⟩
  have hpay₁ : (src.view.loc (d : Thread nD τ) ↦[src.view.set]{fullShare} f) ⊢ (Rd X).payload (cell k₁ d r) 0 false := by
    rw [payload_cell]
    refine .trans ?_ hp₁
    iintro H
    unfold ownsTc owns
    iexists f
    isplitr; · ipureintro; exact hf
    iexact H
  have hpay₂ : (dst.view.loc (p : Thread nD τ) ↦[dst.view.set]{fullShare} (dst.view.write (Elt F) g (src.view.read (Elt F) f) Finset.univ))
      ⊢ (Rd X).payload (cell k₂ p r) 0 false := by
    rw [payload_cell]
    refine .trans ?_ hp₂
    iintro H
    unfold ownsTc owns
    iexists _
    isplitr
    rotate_left
    · iexact H
    · ipureintro; rw [View.read_write_univ, hf]
  iapply (Rounds.wp_send_pointsTo Variants.none ER (Rd X) (d : Thread nD τ) none (c' := (p : Thread nD τ)) (src := src) (dst := dst)
      (sS := .dma (talk k₁ r)) (sem := .dma (talk k₂ r)) (q := fullShare) (fs := f) (fd := g) (κ₁ := K (cell k₁ d r)) (κ₂ := K (cell k₂ p r))
      (r₁ := 0) (r₂ := 0) (d₁ := false) (d₂ := false) (k := .ret)
      (by rw [duties_cell]; exact Finset.mem_singleton_self _) (by rw [duties_cell]; exact Finset.mem_singleton_self _)
      () () N hN rfl rfl O rfl hpay₁ hpay₂) $$ [HO Hs Hd Ht₁ Hr₁ Ht₂ Hr₂]
  · isplitr; · iexact Hi₁
    isplitr; · iexact Hi₂
    isplitl [Hs]; · iexact Hs
    isplitl [Hd]; · iexact Hd
    isplitl [HO]; · iexact HO
    isplitl [Ht₁]; · iexact Ht₁
    isplitl [Hr₁]; · iexact Hr₁
    isplitl [Ht₂] <;> iassumption
  iintro ⟨Hc, HO⟩
  rw [wp_ret]
  imodintro
  iapply Hk
  isplitl [HO]; · iexists _; iexact HO
  iexact Hc

end Cert.KernelIdeal.Comm

end
-- ==== Proof.CommSteps.lean ====
/-
  The statements of the exchange at one chunk.

  For each statement of the compact body: what it takes of a device's pieces at chunk `r` (`A…`), and what it gives back (`B…`).
-/
module

public import proofs.«01_k».proof.Proof.TalkRules

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
variable (X : Dev nD → S4096x2048.Idx → Elt F .f32) (K : GSem nD τ sig → ℕ) (d : Dev nD)

/-! ## The protocol's facts on the pieces sent -/

/-- What one owns of the exchange buffer depends on the rows only. -/
theorem owns_land_congr {c : Dev nD} {off off' : Fin 2 → Nat} (h : off = off') {inb inb'} {hr hr'} (C : S128x1024.Idx → Elt F .bf16) :
    (ownsTc c (exM.slice (Rect.unit (s := S4096x1024) off S128x1024.size inb) hr) fullShare C : sProp (M F))
      = ownsTc c (exM.slice (Rect.unit (s := S4096x1024) off' S128x1024.size inb') hr') fullShare C := by
  subst h; rfl

theorem owns_land_yN (c : Dev nD) (r : Fin 16) (C : S128x1024.Idx → Elt F .bf16) :
    (ownsTc c (land (yN d) r) fullShare C : sProp (M F)) = ownsTc c (land d r) fullShare C :=
  owns_land_congr (off2_yN d r) C

theorem pay_y (r : Fin 16) : pay X 1 (yN d) r = ownsTc (yN d) (land d r) fullShare (sentC X d r) := by
  show ownsTc (yN d) (land (yN d) r) fullShare (sentC X (yN (yN d)) r) = _
  rw [owns_land_yN, yN_yN]

theorem pay_x (r : Fin 16) : pay X 3 (xN d) r = ownsTc (xN d) (land d r) fullShare (sentC X (yN d) r) := by
  show ownsTc (xN d) (land (xN (xN d)) r) fullShare (sentC X (yN (xN (xN d))) r) = _
  have h : ∀ g : Dev nD, g = d → (ownsTc (xN d) (land g r) fullShare (sentC X (yN g) r) : sProp (M F))
      = ownsTc (xN d) (land d r) fullShare (sentC X (yN d) r) := by rintro _ rfl; rfl
  exact h _ (xN_xN d)

/-! ## The peer's piece -/

/-- Chunk `r` of the piece for the y neighbour, before narrowing. -/
def PX (r : Fin 16) : S128x1024.Idx → Elt F .f32 := fun j => X d ((RPeer d r).emb j)

/-- The share of `x` chunk `r` is read at. -/
abbrev tok (r : Fin 16) : PosShare TreeShare := Transfers.shareTok fullShare 16 r
/-- The share of `x` the kept columns are read at. -/
abbrev rem : PosShare TreeShare := Transfers.shareDrop fullShare 16

/-- Local semaphore `r` of an array, at zero. -/
abbrev idle16 (a : DmaSems sig S16) (r : Fin 16) : sProp (M F) := semVal ((d : Thread nD τ), SemLoc.dma (sem16 a r)) 0

def A0 (r : Fin 16) : sProp (M F) :=
  iprop(ownsTc d xM (tok r) (X d) ∗ (∃ Y, ownsTc d (peerDst r) fullShare Y) ∗ idle16 d cc0_scratch5 r)
def B0 (r : Fin 16) : sProp (M F) :=
  iprop(Fly d (sem16 cc0_scratch5 r) (peerDst r)
      iprop(ownsTc d (peerDst r) fullShare (PX X d r) ∗ ownsTc d (peerSrc d r) (tok r) (PX X d r))
    ∗ without d xM (RPeer d r) (fun _ => rfl) (tok r) (X d))

theorem peerCopy_step (r : Fin 16) (rs : List (Fin 16)) :
    iprop(emp ∗ A0 X d r) ⊢ WP d (peerCopy d r) (fun _ => iprop(emp ∗ B0 X d r)) := by
  unfold A0 B0 peerCopy
  iintro ⟨-, Hx, ⟨%Y, Hp⟩, Hv⟩
  ihave Hx := (slice_out d xM (RPeer d r) (fun _ => rfl) (tok r) (X d)) $$ Hx
  icases Hx with ⟨Hx, Hw⟩
  iapply (step_copy d (src := peerSrc d r) (dst := peerDst r) (View.dmaCredit_pos _ (by decide)) (q := tok r) (X := PX X d r) (Y := Y))
  isplitl [Hx]; · iexact Hx
  isplitl [Hp]; · iexact Hp
  isplitl [Hv]; · iexact Hv
  iintro Hf
  isplitr; · iempintro
  isplitl [Hf]; · iexact Hf
  iexact Hw

/-! ## Sending to the y neighbour -/

/-- What a send of chunk `r` uses up of the protocol, beside its credit: the duties of its two ends. -/
def sendGhost (p : Dev nD) (k₁ k₂ : Fin 4) (r : Fin 16) : sProp (M F) :=
  iprop(dutyTok ER (cell k₁ d r) 0 false ∗ reached ER (cell k₁ d r) 0 ∗ dutyTok ER (cell k₂ p r) 0 false)

def I1 (rs : List (Fin 16)) : sProp (M F) := iprop(records X K ∗ levAts L lv ∗ Owe d (OS d rs))
def A1 (r : Fin 16) : sProp (M F) :=
  iprop(B0 X d r ∗ (∃ Y, ownsTc d (sendSrc r) fullShare Y) ∗ ((∃ Y, ownsTc (yN d) (land d r) fullShare Y) ∗ reached ER (cell 1 (yN d) r) 0)
    ∗ sendGhost d (yN d) 0 1 r)
def B1 (r : Fin 16) : sProp (M F) := iprop(A0 X d r ∗ cred (tallyAt (cell 0 d r) () N))

theorem lv_local (s : DmaSem sig) (h : what s = none) : lv ((d : Thread nD τ), .dma s) () = 0 := by
  show (match what s with | some kr => if kr.1 = 1 then 2 else if kr.1 = 3 then 3 else 0 | none => 0) = 0
  rw [h]
theorem what_peer (r : Fin 16) : what (sem16 cc0_scratch5 r) = none := by revert r; decide +kernel
theorem what_out (r : Fin 16) : what (sem16 cc0_scratch6 r) = none := by revert r; decide +kernel
theorem what_cp : what cpSem = none := by decide +kernel

theorem owe_OS (r : Fin 16) (rs : List (Fin 16)) :
    Owe d (OS d (r :: rs)) ⊢ (Owe d (OS d rs + tallyAt (cell 1 (yN d) r) () N) : sProp (M F)) :=
  Entails.of_eq (congrArg (Owe d) (add_assoc _ _ _).symm)

theorem sendY_step (r : Fin 16) (rs : List (Fin 16)) :
    iprop(I1 X K d (r :: rs) ∗ A1 X d r) ⊢ WP d (sendY d r) (fun _ => iprop(I1 X K d rs ∗ B1 X d r)) := by
  unfold I1 A1 B1 B0 A0 sendGhost sendY
  iintro ⟨⟨#HR, #HL, HO⟩, ⟨Hf, Hw⟩, ⟨%Y, Hs⟩, ⟨Hl, Hr₂⟩, Ht₁, Hr₁, Ht₂⟩
  unfold WP
  rw [wp_bind]
  iapply (step_wait d (src := peerSrc d r) (dst := peerDst r) (sm := sem16 cc0_scratch5 r) (O := OS d (r :: rs)))
  isplitl [Hf]; · iexact Hf
  isplitl [HO]; · iexact HO
  isplitr
  · iapply (may_OS d _ (le_of_eq_of_le (lv_local d _ (what_peer r)) (Nat.zero_le 1)) (r :: rs)); iexact HL
  iintro ⟨⟨Hp, Hx⟩, Hv, HO⟩
  rw [wp_bind]
  iapply (step_load d (m := pfM) (r := R128 r) (fun _ => rfl) (q := fullShare) (X := PX X d r))
  isplitl [Hp]; · iexact Hp
  iintro Hp
  rw [wp_bind]
  iapply (step_load d (m := sbM) (r := R128 r) (fun _ => rfl) (q := fullShare) (X := Y))
  isplitl [Hs]; · iexact Hs
  iintro Hs
  rw [wp_bind]
  iapply (step_store d (m := sbM) (r := R128 r) (fun _ => rfl) (X := Y))
  isplitl [Hs]; · iexact Hs
  iintro Hs
  ihave HO := (owe_OS d r rs) $$ HO
  iapply (step_send X K d (yN d) 0 1 r (OS d rs) (src := sendSrc r) (dst := land d r) rfl rfl rfl (C := sentC X d r)
    .rfl (Entails.of_eq (pay_y X d r).symm))
  isplitr; · iexact HR
  isplitl [HO]; · iexact HO
  isplitl [Hs]; · iexact Hs
  isplitl [Hl]; · iexact Hl
  isplitl [Ht₁]; · iexact Ht₁
  isplitl [Hr₁]; · iexact Hr₁
  isplitl [Ht₂]; · iexact Ht₂
  isplitl [Hr₂]; · iexact Hr₂
  iintro ⟨HO, Hc⟩
  isplitl [HO]
  · isplitr; · iexact HR
    isplitr; · iexact HL
    iexact HO
  isplitr [Hc]
  · isplitl [Hx Hw]
    · iapply (slice_in d xM (RPeer d r) (fun _ => rfl) (tok r) (X d))
      isplitl [Hx]; · iexact Hx
      iexact Hw
    isplitl [Hp]; · iexists _; iexact Hp
    iexact Hv
  iexact Hc

/-! ## The kept columns -/

def A2 : sProp (M F) :=
  iprop(ownsTc d xM rem (X d) ∗ (∃ Y, ownsTc d ofM fullShare Y) ∗ semVal ((d : Thread nD τ), SemLoc.dma cpSem) 0)
def B2 : sProp (M F) :=
  iprop(Fly d cpSem ofM iprop(ownsTc d ofM fullShare (keptC X d) ∗ ownsTc d (ownSrc d) rem (keptC X d))
    ∗ without d xM (ROwn d) (fun _ => rfl) rem (X d))

theorem ownCopy_step : A2 X d ⊢ WP d (ownCopy d) (fun _ => B2 X d) := by
  unfold A2 B2 ownCopy
  iintro ⟨Hx, ⟨%Y, Hp⟩, Hv⟩
  ihave Hx := (slice_out d xM (ROwn d) (fun _ => rfl) rem (X d)) $$ Hx
  icases Hx with ⟨Hx, Hw⟩
  iapply (step_copy d (src := ownSrc d) (dst := ofM) (View.dmaCredit_pos _ (by decide)) (q := rem) (X := keptC X d) (Y := Y))
  isplitl [Hx]; · iexact Hx
  isplitl [Hp]; · iexact Hp
  isplitl [Hv]; · iexact Hv
  iintro Hf
  isplitl [Hf]; · iexact Hf
  iexact Hw

/-- What the kept columns' copy gives back: `x`, and the columns in vector memory. -/
def C2 : sProp (M F) :=
  iprop(ownsTc d xM rem (X d) ∗ ownsTc d ofM fullShare (keptC X d) ∗ semVal ((d : Thread nD τ), SemLoc.dma cpSem) 0)

theorem ownWait_step (rs : List (Fin 16)) :
    iprop((levAts L lv ∗ Owe d (OX d rs)) ∗ B2 X d) ⊢ WP d (ownWait d) (fun _ => iprop(Owe d (OX d rs) ∗ C2 X d)) := by
  unfold B2 C2 ownWait
  iintro ⟨⟨#HL, HO⟩, Hf, Hw⟩
  iapply (step_wait d (src := ownSrc d) (dst := ofM) (sm := cpSem) (O := OX d rs))
  isplitl [Hf]; · iexact Hf
  isplitl [HO]; · iexact HO
  isplitr
  · iapply (may_OX d _ (le_of_eq_of_le (lv_local d _ what_cp) (Nat.zero_le 2)) rs); iexact HL
  iintro ⟨⟨Hp, Hx⟩, Hv, HO⟩
  isplitl [HO]; · iexact HO
  isplitl [Hx Hw]
  · iapply (slice_in d xM (ROwn d) (fun _ => rfl) rem (X d))
    isplitl [Hx]; · iexact Hx
    iexact Hw
  isplitl [Hp] <;> iassumption

/-! ## Forwarding to the x neighbour, and storing the kept chunk -/

def I3 (rs : List (Fin 16)) : sProp (M F) := iprop(records X K ∗ levAts L lv ∗ Owe d (OX d rs))
def A3 (r : Fin 16) : sProp (M F) :=
  iprop((cred (tallyAt (cell 1 d r) () N) ∗ atPos ER (cell 1 d r) 0 ∅ 0)
    ∗ ((∃ Y, ownsTc (xN d) (land d r) fullShare Y) ∗ reached ER (cell 3 (xN d) r) 0) ∗ sendGhost d (xN d) 2 3 r)
def B3 (r : Fin 16) : sProp (M F) := iprop(semVal (cell 1 d r) 0 ∗ cred (tallyAt (cell 2 d r) () N))

theorem fwdX_step (r : Fin 16) (rs : List (Fin 16)) :
    iprop(I3 X K d (r :: rs) ∗ A3 d r) ⊢ WP d (fwdX d r) (fun _ => iprop(I3 X K d rs ∗ B3 (F := F) d r)) := by
  unfold I3 A3 B3 sendGhost fwdX
  iintro ⟨⟨#HR, #HL, HO⟩, ⟨Hc, Ha⟩, ⟨Hl, Hr₂⟩, Ht₁, Hr₁, Ht₂⟩
  unfold WP
  rw [wp_bind]
  iapply (step_recv X K d 1 r (OX d (r :: rs)) (src := sendSrc r) (dst := land d r) (sm := sem16 cc0_scratch8 r) rfl rfl)
  isplitr; · iexact HR
  isplitl [HO]; · iexact HO
  isplitr
  · iapply (may_OX d (.dma (talk 1 r)) (le_of_eq (lv_cell1 d r)) (r :: rs)); iexact HL
  isplitl [Hc]; · iexact Hc
  isplitl [Ha]; · iexact Ha
  iintro ⟨HO, Hv, Hp⟩
  ihave Hp := (show pay X 1 d r ⊢ ownsTc d (land d r) fullShare (sentC X (yN d) r) from .rfl) $$ Hp
  iapply (step_send X K d (xN d) 2 3 r (OX d rs) (src := land d r) (dst := land d r) rfl rfl rfl (C := sentC X (yN d) r)
    .rfl (Entails.of_eq (pay_x X d r).symm))
  isplitr; · iexact HR
  isplitl [HO]; · iexact HO
  isplitl [Hp]; · iexact Hp
  isplitl [Hl]; · iexact Hl
  isplitl [Ht₁]; · iexact Ht₁
  isplitl [Hr₁]; · iexact Hr₁
  isplitl [Ht₂]; · iexact Ht₂
  isplitl [Hr₂]; · iexact Hr₂
  iintro ⟨HO, Hc⟩
  isplitl [HO]
  · isplitr; · iexact HR
    isplitr; · iexact HL
    iexact HO
  isplitl [Hv] <;> iassumption

/-- Chunk `r` of the kept columns, narrowed. -/
def OC (r : Fin 16) : S256x1024.Idx → Elt F .bf16 := nar256 (fun j => keptC X d ((R256 r).emb j))
theorem OC_eq (r : Fin 16) : OC X d r = fun j => owC X d ((R256 r).emb j) := owC_chunk X d r
/-- Chunk `r` of the kept columns, in vector memory. -/
def kept (r : Fin 16) : sProp (M F) :=
  ownsTc d (ofM.slice (R256 r) (fun _ => rfl)) fullShare (fun j => keptC X d ((R256 r).emb j))

def A4 (r : Fin 16) : sProp (M F) :=
  iprop(kept X d r ∗ (∃ Y, ownsTc d (ownVm r) fullShare Y) ∗ (∃ Y, ownsTc d (ownDst r) fullShare Y) ∗ idle16 d cc0_scratch6 r)
def B4 (r : Fin 16) : sProp (M F) :=
  iprop(kept X d r ∗ Fly d (sem16 cc0_scratch6 r) (ownDst r)
      iprop(ownsTc d (ownDst r) fullShare (OC X d r) ∗ ownsTc d (ownVm r) fullShare (OC X d r)))

theorem ownStore_step (r : Fin 16) : A4 X d r ⊢ WP d (ownStore r) (fun _ => B4 X d r) := by
  unfold A4 B4 kept ownStore
  iintro ⟨Hk, ⟨%Y, Hv⟩, ⟨%Z, Hd⟩, Hs⟩
  unfold WP
  rw [wp_bind]
  iapply (step_load d (m := ofM) (r := R256 r) (fun _ => rfl) (q := fullShare) (X := fun j => keptC X d ((R256 r).emb j)))
  isplitl [Hk]; · iexact Hk
  iintro Hk
  rw [wp_bind]
  iapply (step_load d (m := obM) (r := R256 r) (fun _ => rfl) (q := fullShare) (X := Y))
  isplitl [Hv]; · iexact Hv
  iintro Hv
  rw [wp_bind]
  iapply (step_store d (m := obM) (r := R256 r) (fun _ => rfl) (X := Y))
  isplitl [Hv]; · iexact Hv
  iintro Hv
  iapply (step_copy d (src := ownVm r) (dst := ownDst r) (View.dmaCredit_pos _ (by decide)) (q := fullShare) (X := OC X d r) (Y := Z))
  isplitl [Hv]; · iexact Hv
  isplitl [Hd]; · iexact Hd
  isplitl [Hs]; · iexact Hs
  iintro Hf
  isplitl [Hk]; · iexact Hk
  iexact Hf

theorem fwdOwn_step (r : Fin 16) (rs : List (Fin 16)) :
    iprop(I3 X K d (r :: rs) ∗ (A3 d r ∗ A4 X d r)) ⊢ WP d (fwdOwn d r) (fun _ => iprop(I3 X K d rs ∗ (B3 (F := F) d r ∗ B4 X d r))) := by
  unfold fwdOwn
  have h1 := fwdX_step X K d r rs
  have h2 := ownStore_step X d r
  iintro ⟨HI, HA, HA'⟩
  unfold WP
  rw [wp_bind]
  ihave Hw := h1 $$ [HI HA]
  · isplitl [HI] <;> iassumption
  iapply (wp_wand_r frame _ Set.univ)
  isplitl [Hw]; · iexact Hw
  iintro %u ⟨HI, HB⟩
  ihave Hw := h2 $$ HA'
  iapply (wp_wand_r frame _ Set.univ)
  isplitl [Hw]; · iexact Hw
  iintro %u HB'
  isplitl [HI]; · iexact HI
  isplitl [HB] <;> iassumption

/-! ## The last arrivals and the ends of the sends -/

def I5 : sProp (M F) := iprop(records X K ∗ Owe d 0)
def A5 (r : Fin 16) : sProp (M F) := iprop(cred (tallyAt (cell 3 d r) () N) ∗ atPos ER (cell 3 d r) 0 ∅ 0)
def B5 (r : Fin 16) : sProp (M F) := iprop(semVal (cell 3 d r) 0 ∗ pay X 3 d r)

theorem recvX_step (r : Fin 16) (rs : List (Fin 16)) :
    iprop(I5 X K d ∗ A5 d r) ⊢ WP d (recvX d r) (fun _ => iprop(I5 X K d ∗ B5 X d r)) := by
  unfold I5 A5 B5 recvX
  iintro ⟨⟨#HR, HO⟩, Hc, Ha⟩
  iapply (step_recv X K d 3 r 0 (src := land d r) (dst := land d r) (sm := sem16 cc0_scratch10 r) rfl rfl)
  isplitr; · iexact HR
  isplitl [HO]; · iexact HO
  isplitr; · iapply (may_0 (F := F) d (.dma (talk 3 r)))
  isplitl [Hc]; · iexact Hc
  isplitl [Ha]; · iexact Ha
  iintro ⟨HO, Hv, Hp⟩
  isplitl [HO]
  · isplitr; · iexact HR
    iexact HO
  isplitl [Hv] <;> iassumption

/-- What waiting for the two ends of the sends uses. -/
def ends (r : Fin 16) : sProp (M F) :=
  iprop((cred (tallyAt (cell 0 d r) () N) ∗ atPos ER (cell 0 d r) 0 ∅ 0) ∗ (cred (tallyAt (cell 2 d r) () N) ∗ atPos ER (cell 2 d r) 0 ∅ 0))
def A6 (r : Fin 16) : sProp (M F) := iprop(ends d r ∗ B4 X d r)
def B6 (r : Fin 16) : sProp (M F) :=
  iprop((semVal (cell 0 d r) 0 ∗ semVal (cell 2 d r) 0 ∗ idle16 d cc0_scratch6 r) ∗ pay X 0 d r ∗ pay X 2 d r
    ∗ kept X d r ∗ ownsTc d (ownVm r) fullShare (OC X d r) ∗ ownsTc d (ownDst r) fullShare (OC X d r))

theorem finish_step (r : Fin 16) (rs : List (Fin 16)) :
    iprop(I5 X K d ∗ A6 X d r) ⊢ WP d (finish d r) (fun _ => iprop(I5 X K d ∗ B6 X d r)) := by
  unfold I5 A6 B6 B4 ends finish
  iintro ⟨⟨#HR, HO⟩, ⟨⟨Hc, Ha⟩, Hc', Ha'⟩, Hk, Hf⟩
  unfold WP
  rw [wp_bind]
  iapply (step_recv X K d 0 r 0 (src := land d r) (dst := sendSrc r) (sm := sem16 cc0_scratch7 r) rfl rfl)
  isplitr; · iexact HR
  isplitl [HO]; · iexact HO
  isplitr; · iapply (may_0 (F := F) d (.dma (talk 0 r)))
  isplitl [Hc]; · iexact Hc
  isplitl [Ha]; · iexact Ha
  iintro ⟨HO, Hv, Hp⟩
  rw [wp_bind]
  iapply (step_recv X K d 2 r 0 (src := land d r) (dst := land d r) (sm := sem16 cc0_scratch9 r) rfl rfl)
  isplitr; · iexact HR
  isplitl [HO]; · iexact HO
  isplitr; · iapply (may_0 (F := F) d (.dma (talk 2 r)))
  isplitl [Hc']; · iexact Hc'
  isplitl [Ha']; · iexact Ha'
  iintro ⟨HO, Hv', Hp'⟩
  iapply (step_wait d (src := ownVm r) (dst := ownDst r) (sm := sem16 cc0_scratch6 r) (O := 0))
  isplitl [Hf]; · iexact Hf
  isplitl [HO]; · iexact HO
  isplitr; · iapply (may_0 (F := F) d (.dma (sem16 cc0_scratch6 r)))
  iintro ⟨⟨Hd, Hm⟩, Hs, HO⟩
  isplitl [HO]
  · isplitr; · iexact HR
    iexact HO
  isplitl [Hv Hv' Hs]
  · isplitl [Hv]; · iexact Hv
    isplitl [Hv'] <;> iassumption
  isplitl [Hp]; · iexact Hp
  isplitl [Hp']; · iexact Hp'
  isplitl [Hk]; · iexact Hk
  isplitl [Hm] <;> iassumption

/-! ## The meeting -/

/-- What the meeting uses: the duties at the neighbours' barriers, what this device hands them, and its own place. -/
def A7 : sProp (M F) :=
  iprop((dutyTok ER (barCell (yN d)) 0 false ∗ reached ER (barCell (yN d)) 0 ∗ (Rd X).payload (barCell (yN d)) 0 false)
    ∗ (dutyTok ER (barCell (xN d)) 0 true ∗ reached ER (barCell (xN d)) 0 ∗ (Rd X).payload (barCell (xN d)) 0 true)
    ∗ cred (tallyAt (barCell d) () 2) ∗ atPos ER (barCell d) 0 ∅ 0)
def B7 : sProp (M F) := iprop(semVal (barCell d) 0 ∗ barPay d (yN d) 1 ∗ barPay d (xN d) 3)

theorem meet_step :
    iprop((records X K ∗ levAts L lv ∗ Owe d (O₀ d)) ∗ A7 X d) ⊢ WP d (meet d) (fun _ => iprop(I1 X K d chunks ∗ B7 (F := F) d)) := by
  unfold A7 B7 I1 meet
  iintro ⟨⟨#HR, #HL, HO⟩, ⟨Hty, Hry, Hpy⟩, ⟨Htx, Hrx, Hpx⟩, Hc, Ha⟩
  unfold WP
  rw [wp_bind]
  iapply (step_signal X K d (yN d) false (OS d chunks + tallyAt (barCell (xN d)) () 1))
  isplitr; · iexact HR
  isplitl [HO]; · iexact HO
  isplitl [Hty]; · iexact Hty
  isplitl [Hry]; · iexact Hry
  isplitl [Hpy]; · iexact Hpy
  iintro HO
  rw [wp_bind]
  iapply (step_signal X K d (xN d) true (OS d chunks))
  isplitr; · iexact HR
  isplitl [HO]; · iexact HO
  isplitl [Htx]; · iexact Htx
  isplitl [Hrx]; · iexact Hrx
  isplitl [Hpx]; · iexact Hpx
  iintro HO
  iapply (step_meet X K d (OS d chunks) (Q := fun _ => iprop(_ ∗ _)))
  isplitr; · iexact HR
  isplitl [HO]; · iexact HO
  isplitr; · iapply (may_OS d (.reg barS) (le_of_eq (lv_bar d)) chunks); iexact HL
  isplitl [Hc]; · iexact Hc
  isplitl [Ha]; · iexact Ha
  iintro ⟨HO, Ha, Hy, Hx⟩
  isplitl [HO]
  · isplitr; · iexact HR
    isplitr; · iexact HL
    iexact HO
  isplitl [Ha]; · iexact Ha
  isplitl [Hy] <;> iassumption

end Cert.KernelIdeal.Comm

end
-- ==== Proof.CommBody.lean ====
/-
  The exchange, run.

  One device's run of the compact body, from the pieces of its buffers and its part of the protocol (`commIn`, `talkIn`) to
  the pieces at what they hold afterwards, with every semaphore back at zero (`commOut`).
-/
module

public import proofs.«01_k».proof.Proof.CommSteps

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
variable (X : Dev nD → S4096x2048.Idx → Elt F .f32) (K : GSem nD τ sig → ℕ) (d : Dev nD)

/-! ## Pieces at every chunk -/

/-- One piece at every number. -/
abbrev all {n : Nat} (Φ : Fin n → sProp (M F)) : sProp (M F) := bigSep Finset.univ Φ

theorem all_join {n : Nat} (Φ Ψ : Fin n → sProp (M F)) : iprop(all Φ ∗ all Ψ) ⊢ all (fun r => iprop(Φ r ∗ Ψ r)) :=
  Entails.of_eq (bigSep_sep' _ Φ Ψ).symm
theorem all_part {n : Nat} (Φ Ψ : Fin n → sProp (M F)) : all (fun r => iprop(Φ r ∗ Ψ r)) ⊢ iprop(all Φ ∗ all Ψ) :=
  Entails.of_eq (bigSep_sep' _ Φ Ψ)

/-- A statement, then the rest. -/
theorem step_then {A B : sProp (M F)} {p k : P F PUnit} (h : A ⊢ WP d p (fun _ => B)) {Q : PUnit → sProp (M F)} :
    iprop(A ∗ (B -∗ WP d k Q)) ⊢ WP d (p >>= fun _ => k) Q := by
  unfold WP
  rw [wp_bind]
  iintro ⟨HA, Hk⟩
  ihave Hw := h $$ HA
  iapply (wp_wand_r frame _ Set.univ)
  isplitl [Hw]; · iexact Hw
  iintro %u HB
  iapply Hk
  iexact HB

/-- A body is told its device. -/
theorem step_dev (k : Dev nD → P F PUnit) (Q : PUnit → sProp (M F)) : WP d (k d) Q ⊢ WP d (Prog.lift .deviceId >>= k) Q := by
  show WP d (k d) Q ⊢ WP d (.op .deviceId k) Q
  unfold WP
  rw [wp_deviceId]

/-- A body ends. -/
theorem step_end {Q : PUnit → sProp (M F)} : Q ⟨⟩ ⊢ WP d (pure ⟨⟩ : P F PUnit) Q := by
  show Q ⟨⟩ ⊢ WP d (.ret ⟨⟩) Q
  unfold WP
  rw [wp_ret]
  exact fupd_intro

/-- A statement at every chunk. -/
theorem wp_chunks (f : Fin 16 → P F PUnit) (I : List (Fin 16) → sProp (M F)) (A B : Fin 16 → sProp (M F))
    (h : ∀ r rs, iprop(I (r :: rs) ∗ A r) ⊢ WP d (f r) (fun _ => iprop(I rs ∗ B r))) (k : P F PUnit) (Q : PUnit → sProp (M F)) :
    iprop(I chunks ∗ all A ∗ (I [] ∗ all B -∗ WP d k Q)) ⊢ WP d (run f chunks k) Q := by
  have e : chunks.toFinset = Finset.univ := by decide
  have := wp_run d f I A B h chunks (by decide) k Q
  rw [e] at this
  exact this

/-- A statement at every chunk after the first. -/
theorem wp_tail (f : Fin 16 → P F PUnit) (I : List (Fin 16) → sProp (M F)) (A B : Fin 16 → sProp (M F))
    (h : ∀ r rs, iprop(I (r :: rs) ∗ A r) ⊢ WP d (f r) (fun _ => iprop(I rs ∗ B r))) (k : P F PUnit) (Q : PUnit → sProp (M F)) :
    iprop(I chunks.tail ∗ bigSep (Finset.univ.erase 0) A ∗ (I [] ∗ bigSep (Finset.univ.erase 0) B -∗ WP d k Q))
      ⊢ WP d (run f chunks.tail k) Q := by
  have e : chunks.tail.toFinset = Finset.univ.erase 0 := by decide
  have := wp_run d f I A B h chunks.tail (by decide) k Q
  rw [e] at this
  exact this

/-! ## The run -/

/-- The pieces of the buffers, and the local semaphores. -/
def commIn : sProp (M F) :=
  iprop(all (A0 X d) ∗ all (fun r => iprop(∃ Y, ownsTc d (sendSrc r) fullShare Y)) ∗ A2 X d
    ∗ all (fun r => iprop((∃ Y, ownsTc d (ownVm r) fullShare Y) ∗ (∃ Y, ownsTc d (ownDst r) fullShare Y) ∗ idle16 d cc0_scratch6 r)))

/-- The device's part of the protocol. -/
def talkIn : sProp (M F) :=
  iprop(A7 X d ∗ all (sendGhost (F := F) d (yN d) 0 1) ∗ all (sendGhost (F := F) d (xN d) 2 3)
    ∗ all (fun r => iprop(cred (tallyAt (cell 1 d r) () N) ∗ atPos ER (cell 1 d r) 0 ∅ 0)) ∗ all (A5 (F := F) d)
    ∗ all (fun r => atPos ER (cell 0 d r) 0 ∅ 0) ∗ all (fun r => atPos ER (cell 2 d r) 0 ∅ 0))

/-- What comes of it. -/
def commOut : sProp (M F) :=
  iprop(Owe d 0 ∗ all (A0 X d) ∗ (ownsTc d xM rem (X d) ∗ semVal ((d : Thread nD τ), SemLoc.dma cpSem) 0)
    ∗ semVal (barCell d) 0 ∗ all (fun r => semVal (cell 1 d r) 0) ∗ all (B5 X d) ∗ all (B6 X d))

theorem kept_all : ownsTc d ofM fullShare (keptC X d) ⊢ all (kept X d) :=
  owns_rects (d : Thread nD τ) ofM fullShare R256 (fun _ _ => rfl) bands256.1 bands256.2 (keptC X d)

theorem barPay_all (p : Dev nD) (k : Fin 4) :
    (barPay d p k : sProp (M F)) ⊢ all (fun r => iprop((∃ Y, ownsTc p (land d r) fullShare Y) ∗ reached ER (cell k p r) 0)) := .rfl
theorem B1_all : all (B1 X d) ⊢ iprop(all (A0 X d) ∗ all (fun r => cred (tallyAt (cell 0 d r) () N))) := all_part _ _
theorem B3_all : (all (B3 d) : sProp (M F)) ⊢ iprop(all (fun r => semVal (cell 1 d r) 0) ∗ all (fun r => cred (tallyAt (cell 2 d r) () N))) :=
  all_part _ _

theorem all_of_tail (Φ : Fin 16 → sProp (M F)) : iprop(Φ 0 ∗ bigSep (Finset.univ.erase 0) Φ) ⊢ all Φ :=
  Entails.of_eq (bigSep_univ_at Φ 0).symm
theorem tail_of_all (Φ : Fin 16 → sProp (M F)) : all Φ ⊢ iprop(Φ 0 ∗ bigSep (Finset.univ.erase 0) Φ) :=
  Entails.of_eq (bigSep_univ_at Φ 0)
theorem tail_part (Φ Ψ : Fin 16 → sProp (M F)) :
    bigSep (Finset.univ.erase 0) (fun r => iprop(Φ r ∗ Ψ r)) ⊢ iprop(bigSep (Finset.univ.erase 0) Φ ∗ bigSep (Finset.univ.erase 0) Ψ) :=
  Entails.of_eq (bigSep_sep' _ Φ Ψ)
theorem A3_all :
    iprop(all (fun r => iprop(cred (tallyAt (cell 1 d r) () N) ∗ atPos ER (cell 1 d r) 0 ∅ 0))
      ∗ all (fun r => iprop((∃ Y, ownsTc (xN d) (land d r) fullShare Y) ∗ reached ER (cell 3 (xN d) r) 0)) ∗ all (sendGhost d (xN d) 2 3))
      ⊢ (iprop(A3 d 0 ∗ bigSep (Finset.univ.erase 0) (A3 (F := F) d)) : sProp (M F)) :=
  ((sep_mono_right (all_join _ _)).trans (all_join _ _)).trans (tail_of_all (A3 d))
theorem A4_all :
    iprop(all (kept X d) ∗ all (fun r => iprop((∃ Y, ownsTc d (ownVm r) fullShare Y) ∗ (∃ Y, ownsTc d (ownDst r) fullShare Y)
      ∗ idle16 d cc0_scratch6 r))) ⊢ iprop(A4 X d 0 ∗ bigSep (Finset.univ.erase 0) (A4 X d)) :=
  (all_join _ _).trans (tail_of_all (A4 X d))

set_option maxHeartbeats 1000000 in
theorem comm_run (Q : PUnit → sProp (M F)) :
    iprop((records X K ∗ levAts L lv ∗ Owe d (O₀ d)) ∗ commIn X d ∗ talkIn X d ∗ (commOut X d -∗ Q ⟨⟩)) ⊢ WP d comm Q := by
  unfold commIn talkIn comm
  refine .trans ?_ (step_dev d _ Q)
  iintro ⟨⟨#HR, #HL, HO⟩, ⟨Hx, Hs, H2, Ho⟩, ⟨H7, Hgy, Hgx, Hc1, H5, Ha0, Ha2⟩, Hk⟩
  -- the peer copies
  iapply (wp_chunks d (peerCopy d) (fun _ => iprop(emp)) (A0 X d) (B0 X d) (peerCopy_step X d))
  isplitr; · iempintro
  isplitl [Hx]; · iexact Hx
  iintro ⟨-, HB0⟩
  -- the meeting
  iapply (step_then d (meet_step X K d))
  isplitl [HO H7]
  · isplitl [HO]
    · isplitr; · iexact HR
      isplitr; · iexact HL
      iexact HO
    iexact H7
  unfold B7
  iintro ⟨HI, Hbar, Hpy, Hpx⟩
  -- the sends to y
  iapply (wp_chunks d (sendY d) (I1 X K d) (A1 X d) (B1 X d) (sendY_step X K d))
  isplitl [HI]; · iexact HI
  isplitl [HB0 Hs Hpy Hgy]
  · iapply (all_join (B0 X d) _)
    isplitl [HB0]; · iexact HB0
    iapply (all_join (fun r => iprop(∃ Y, ownsTc d (sendSrc r) fullShare Y)) _)
    isplitl [Hs]; · iexact Hs
    iapply (all_join (fun r => iprop((∃ Y, ownsTc (yN d) (land d r) fullShare Y) ∗ reached ER (cell 1 (yN d) r) 0)) _)
    isplitl [Hpy]; · iapply (barPay_all d (yN d) 1); iexact Hpy
    iexact Hgy
  iintro ⟨HI, HB1⟩
  ihave HB1 := (B1_all X d) $$ HB1
  icases HB1 with ⟨Hx, Hc0⟩
  unfold I1
  icases HI with ⟨-, -, HO⟩
  ihave HO := (show Owe d (OS d []) ⊢ (Owe d (OX d chunks) : sProp (M F)) from Entails.of_eq (congrArg (Owe d) (add_zero _))) $$ HO
  -- the kept columns' copy
  iapply (step_then d (ownCopy_step X d))
  isplitl [H2]; · iexact H2
  iintro H2
  -- the first forward
  ihave HA3 := (A3_all d) $$ [Hc1 Hpx Hgx]
  · isplitl [Hc1]; · iexact Hc1
    isplitl [Hpx]; · iapply (barPay_all d (xN d) 3); iexact Hpx
    iexact Hgx
  icases HA3 with ⟨HA30, HA3⟩
  iapply (step_then d (fwdX_step X K d 0 chunks.tail))
  isplitl [HO HA30]
  · isplitl [HO]
    · unfold I3
      isplitr; · iexact HR
      isplitr; · iexact HL
      iexact HO
    iexact HA30
  iintro ⟨HI, HB30⟩
  unfold I3
  icases HI with ⟨-, -, HO⟩
  -- the kept columns
  iapply (step_then d (ownWait_step X d chunks.tail))
  isplitl [HO H2]
  · isplitl [HO]
    · isplitr; · iexact HL
      iexact HO
    iexact H2
  unfold C2
  iintro ⟨HO, Hxr, Hkept, Hcp⟩
  ihave Hkept := (kept_all X d) $$ Hkept
  ihave HA4 := (A4_all X d) $$ [Hkept Ho]
  · isplitl [Hkept]; · iexact Hkept
    iexact Ho
  icases HA4 with ⟨HA40, HA4⟩
  iapply (step_then d (ownStore_step X d 0))
  isplitl [HA40]; · iexact HA40
  iintro HB40
  -- the other forwards
  iapply (wp_tail d (fwdOwn d) (I3 X K d) (fun r => iprop(A3 d r ∗ A4 X d r)) (fun r => iprop(B3 d r ∗ B4 X d r)) (fwdOwn_step X K d))
  isplitl [HO]
  · unfold I3
    isplitr; · iexact HR
    isplitr; · iexact HL
    iexact HO
  isplitl [HA3 HA4]
  · iapply (Entails.of_eq (bigSep_sep' (Finset.univ.erase 0) (A3 d) (A4 X d)).symm)
    isplitl [HA3]; · iexact HA3
    iexact HA4
  iintro ⟨HI, HB⟩
  ihave HB := (tail_part (B3 d) (B4 X d)) $$ HB
  icases HB with ⟨HB3, HB4⟩
  ihave HB3 := (all_of_tail (B3 d)) $$ [HB30 HB3]
  · isplitl [HB30] <;> iassumption
  ihave HB4 := (all_of_tail (B4 X d)) $$ [HB40 HB4]
  · isplitl [HB40] <;> iassumption
  ihave HB3 := (B3_all d) $$ HB3
  icases HB3 with ⟨Hv1, Hc2⟩
  unfold I3
  icases HI with ⟨-, -, HO⟩
  -- the arrivals from x
  iapply (wp_chunks d (recvX d) (fun _ => I5 X K d) (A5 d) (B5 X d) (recvX_step X K d))
  isplitl [HO]
  · unfold I5
    isplitr; · iexact HR
    iexact HO
  isplitl [H5]; · iexact H5
  iintro ⟨HI, HB5⟩
  -- the ends of the sends
  iapply (wp_chunks d (finish d) (fun _ => I5 X K d) (A6 X d) (B6 X d) (finish_step X K d))
  isplitl [HI]; · iexact HI
  isplitl [Hc0 Ha0 Hc2 Ha2 HB4]
  · iapply (all_join (ends d) (B4 X d))
    isplitr [HB4]
    · iapply (all_join (fun r => iprop(cred (tallyAt (cell 0 d r) () N) ∗ atPos ER (cell 0 d r) 0 ∅ 0)) _)
      isplitl [Hc0 Ha0]
      · iapply (all_join (fun r => cred (tallyAt (cell 0 d r) () N)) (fun r => atPos ER (cell 0 d r) 0 ∅ 0))
        isplitl [Hc0]; · iexact Hc0
        iexact Ha0
      · iapply (all_join (fun r => cred (tallyAt (cell 2 d r) () N)) (fun r => atPos ER (cell 2 d r) 0 ∅ 0))
        isplitl [Hc2]; · iexact Hc2
        iexact Ha2
    iexact HB4
  unfold I5
  iintro ⟨⟨-, HO⟩, HB6⟩
  iapply (step_end d)
  iapply Hk
  unfold commOut
  isplitl [HO]; · iexact HO
  isplitl [Hx]; · iexact Hx
  isplitl [Hxr Hcp]
  · isplitl [Hxr] <;> iassumption
  isplitl [Hbar]; · iexact Hbar
  isplitl [Hv1]; · iexact Hv1
  isplitl [HB5]; · iexact HB5
  iexact HB6

end Cert.KernelIdeal.Comm

end
-- ==== Proof.AsmBody.lean ====
/-
  The assembly, run.

  Eight tasks, each moving one quarter of a source to the result through a slot of the bounce buffer. The tasks of the kept
  columns and those of the received rows differ in the memrefs and the semaphores only, so one rule serves both.
-/
module

public import proofs.«01_k».proof.Proof.CommBody

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
variable (d : Dev nD)

/-! ## One task -/

section Task

variable {sp sp' sp'' : Space} (src : Memref sig .tc sp S1024x1024 .bf16) (mid : Memref sig .tc sp' S1024x1024 .bf16)
  (dst : Memref sig .tc sp'' S1024x1024 .bf16) (s₁ s₂ : DmaSem sig) (C : S1024x1024.Idx → Elt F .bf16)

abbrev idle (s : DmaSem sig) : sProp (M F) := semVal ((d : Thread nD τ), SemLoc.dma s) 0

def TA : sProp (M F) := iprop(ownsTc d src fullShare C ∗ (∃ Y, ownsTc d mid fullShare Y) ∗ idle d s₁)
def TB : sProp (M F) := Fly d s₁ mid iprop(ownsTc d mid fullShare C ∗ ownsTc d src fullShare C)
def TC : sProp (M F) := iprop(TB d src mid s₁ C ∗ (∃ Y, ownsTc d dst fullShare Y) ∗ idle d s₂)
def TD : sProp (M F) :=
  iprop((ownsTc d src fullShare C ∗ idle d s₁) ∗ TB d mid dst s₂ C)
def TE : sProp (M F) := iprop(ownsTc d dst fullShare C ∗ ownsTc d mid fullShare C ∗ idle d s₂)

theorem task_in {h₁ : src.view.WordExact} {h₂ : mid.view.WordExact} {h₃ : DmaTarget.Typed (nD := nD) (τ := τ) (p := .tc) sp (.dma s₁) (.here mid)} :
    iprop(Owe d 0 ∗ TA d src mid s₁ C)
      ⊢ WP d (Prog.lift (.enqueueDma src (.here mid) (.dma s₁) h₁ h₂ h₃)) (fun _ => iprop(Owe d 0 ∗ TB d src mid s₁ C)) := by
  unfold TA TB
  iintro ⟨HO, Hs, ⟨%Y, Hm⟩, Hv⟩
  iapply (step_copy d (src := src) (dst := mid) (View.dmaCredit_pos _ (by decide)) (q := fullShare) (X := C) (Y := Y))
  isplitl [Hs]; · iexact Hs
  isplitl [Hm]; · iexact Hm
  isplitl [Hv]; · iexact Hv
  iintro Hf
  isplitl [HO]; · iexact HO
  iexact Hf

theorem task_end {h₁ : mid.view.WordExact} {h₂ : dst.view.WordExact} :
    iprop(Owe d 0 ∗ TB d mid dst s₂ C)
      ⊢ WP d (Prog.lift (.waitDma2 s₂ mid dst h₁ h₂)) (fun _ => iprop(Owe d 0 ∗ TE d mid dst s₂ C)) := by
  unfold TB TE
  iintro ⟨HO, Hf⟩
  iapply (step_wait d (src := mid) (dst := dst) (sm := s₂) (O := 0))
  isplitl [Hf]; · iexact Hf
  isplitl [HO]; · iexact HO
  isplitr; · iapply (may_0 (F := F) d (.dma s₂))
  iintro ⟨⟨Hd, Hm⟩, Hv, HO⟩
  isplitl [HO]; · iexact HO
  isplitl [Hd]; · iexact Hd
  isplitl [Hm] <;> iassumption

theorem task_mid {h₁ : src.view.WordExact} {h₂ h₁' : mid.view.WordExact} {h₂' : dst.view.WordExact}
    {h₃ : DmaTarget.Typed (nD := nD) (τ := τ) (p := .tc) sp' (.dma s₂) (.here dst)} :
    iprop(Owe d 0 ∗ TC d src mid dst s₁ s₂ C)
      ⊢ WP d (Prog.lift (.waitDma2 s₁ src mid h₁ h₂) >>= fun _ => Prog.lift (.enqueueDma mid (.here dst) (.dma s₂) h₁' h₂' h₃))
          (fun _ => iprop(Owe d 0 ∗ TD d src mid dst s₁ s₂ C)) := by
  unfold TC TD
  have hw := task_end d src mid s₁ C (h₁ := h₁) (h₂ := h₂)
  have hi := task_in d mid dst s₂ C (h₁ := h₁') (h₂ := h₂') (h₃ := h₃)
  unfold TE at hw
  unfold TA at hi
  iintro ⟨HO, Hf, Hd, Hv⟩
  iapply (step_then d hw)
  isplitl [HO Hf]
  · isplitl [HO] <;> iassumption
  iintro ⟨HO, Hm, Hs, Hv₁⟩
  ihave Hw := hi $$ [HO Hm Hd Hv]
  · isplitl [HO]; · iexact HO
    isplitl [Hm]; · iexact Hm
    isplitl [Hd] <;> iassumption
  unfold WP
  iapply (wp_wand_r frame _ Set.univ)
  isplitl [Hw]; · iexact Hw
  iintro %u ⟨HO, Hf⟩
  isplitl [HO]; · iexact HO
  isplitr [Hf]
  · isplitl [Hs] <;> iassumption
  iexact Hf

end Task

/-! ## The run -/

variable (E O : S4096x1024.Idx → Elt F .bf16)

/-- Quarter `r` of 4096 rows. -/
def quarter (Z : S4096x1024.Idx → Elt F .bf16) (r : Fin 4) : S1024x1024.Idx → Elt F .bf16 := fun j => Z ((R1024 r).emb j)

theorem wp_quarters (f : Fin 4 → P F PUnit) (A B : Fin 4 → sProp (M F))
    (h : ∀ r, iprop(Owe d 0 ∗ A r) ⊢ WP d (f r) (fun _ => iprop(Owe d 0 ∗ B r))) (k : P F PUnit) (Q : PUnit → sProp (M F)) :
    iprop(Owe d 0 ∗ all A ∗ (Owe d 0 ∗ all B -∗ WP d k Q)) ⊢ WP d (run f quarters k) Q := by
  have e : quarters.toFinset = Finset.univ := by decide
  have := wp_run d f (fun _ => Owe d 0) A B (fun r _ => h r) quarters (by decide) k Q
  rw [e] at this
  exact this

abbrev i8 (r : Fin 8) : DmaSem sig := sem8 cc1_scratch1 r
abbrev o8 (r : Fin 8) : DmaSem sig := sem8 cc1_scratch2 r

abbrev TAO (r : Fin 4) : sProp (M F) := TA d (ownQ r) (slot (lo r)) (i8 (lo r)) (quarter O r)
abbrev TAE (r : Fin 4) : sProp (M F) := TA d (exQ r) (slot (hi r)) (i8 (hi r)) (quarter E r)
/-- A place of the result, and the semaphore of the copy there. -/
abbrev TZO (r : Fin 4) : sProp (M F) := iprop((∃ Y, ownsTc d (resO d r) fullShare Y) ∗ idle d (o8 (lo r)))
abbrev TZE (r : Fin 4) : sProp (M F) := iprop((∃ Y, ownsTc d (resE d r) fullShare Y) ∗ idle d (o8 (hi r)))

def asmIn : sProp (M F) := iprop(Owe d 0 ∗ all (TAO d O) ∗ all (TAE d E) ∗ all (TZO d) ∗ all (TZE d))

abbrev TSO (r : Fin 4) : sProp (M F) := iprop(ownsTc d (ownQ r) fullShare (quarter O r) ∗ idle d (i8 (lo r)))
abbrev TSE (r : Fin 4) : sProp (M F) := iprop(ownsTc d (exQ r) fullShare (quarter E r) ∗ idle d (i8 (hi r)))
abbrev TEO (r : Fin 4) : sProp (M F) := TE d (slot (lo r)) (resO d r) (o8 (lo r)) (quarter O r)
abbrev TEE (r : Fin 4) : sProp (M F) := TE d (slot (hi r)) (resE d r) (o8 (hi r)) (quarter E r)

def asmOut : sProp (M F) := iprop(Owe d 0 ∗ (all (TSO d O) ∗ all (TEO d O)) ∗ all (TSE d E) ∗ all (TEE d E))

theorem asm_run (Q : PUnit → sProp (M F)) : iprop(asmIn d E O ∗ (asmOut d E O -∗ Q ⟨⟩)) ⊢ WP d asm Q := by
  unfold asmIn asm
  refine .trans ?_ (step_dev d _ Q)
  iintro ⟨⟨HO, HAO, HAE, HZO, HZE⟩, Hk⟩
  iapply (wp_quarters d inO (TAO d O) (fun r => TB d (ownQ r) (slot (lo r)) (i8 (lo r)) (quarter O r)) (fun r => task_in d _ _ _ _))
  isplitl [HO]; · iexact HO
  isplitl [HAO]; · iexact HAO
  iintro ⟨HO, HBO⟩
  iapply (wp_quarters d inE (TAE d E) (fun r => TB d (exQ r) (slot (hi r)) (i8 (hi r)) (quarter E r)) (fun r => task_in d _ _ _ _))
  isplitl [HO]; · iexact HO
  isplitl [HAE]; · iexact HAE
  iintro ⟨HO, HBE⟩
  iapply (wp_quarters d (midO d) (fun r => iprop(TB d (ownQ r) (slot (lo r)) (i8 (lo r)) (quarter O r) ∗ TZO d r))
    (fun r => iprop(TSO d O r ∗ TB d (slot (lo r)) (resO d r) (o8 (lo r)) (quarter O r))) (fun r => task_mid d _ _ _ _ _ _))
  isplitl [HO]; · iexact HO
  isplitl [HBO HZO]
  · iapply (all_join (fun r => TB d (ownQ r) (slot (lo r)) (i8 (lo r)) (quarter O r)) (TZO d))
    isplitl [HBO] <;> iassumption
  iintro ⟨HO, HDO⟩
  iapply (wp_quarters d (midE d) (fun r => iprop(TB d (exQ r) (slot (hi r)) (i8 (hi r)) (quarter E r) ∗ TZE d r))
    (fun r => iprop(TSE d E r ∗ TB d (slot (hi r)) (resE d r) (o8 (hi r)) (quarter E r))) (fun r => task_mid d _ _ _ _ _ _))
  isplitl [HO]; · iexact HO
  isplitl [HBE HZE]
  · iapply (all_join (fun r => TB d (exQ r) (slot (hi r)) (i8 (hi r)) (quarter E r)) (TZE d))
    isplitl [HBE] <;> iassumption
  iintro ⟨HO, HDE⟩
  ihave HDO := (all_part (TSO d O) (fun r => TB d (slot (lo r)) (resO d r) (o8 (lo r)) (quarter O r))) $$ HDO
  icases HDO with ⟨HSO, HDO⟩
  ihave HDE := (all_part (TSE d E) (fun r => TB d (slot (hi r)) (resE d r) (o8 (hi r)) (quarter E r))) $$ HDE
  icases HDE with ⟨HSE, HDE⟩
  iapply (wp_quarters d (endO d) (fun r => TB d (slot (lo r)) (resO d r) (o8 (lo r)) (quarter O r)) (TEO d O) (fun r => task_end d _ _ _ _))
  isplitl [HO]; · iexact HO
  isplitl [HDO]; · iexact HDO
  iintro ⟨HO, HEO⟩
  iapply (wp_quarters d (endE d) (fun r => TB d (slot (hi r)) (resE d r) (o8 (hi r)) (quarter E r)) (TEE d E) (fun r => task_end d _ _ _ _))
  isplitl [HO]; · iexact HO
  isplitl [HDE]; · iexact HDE
  iintro ⟨HO, HEE⟩
  iapply (step_end d)
  iapply Hk
  unfold asmOut
  isplitl [HO]; · iexact HO
  isplitl [HSO HEO]
  · isplitl [HSO] <;> iassumption
  isplitl [HSE] <;> iassumption

end Cert.KernelIdeal.Comm

end
-- ==== Proof.Pieces.lean ====
/-
  From whole buffers to pieces and back.

  The bodies run over pieces of the buffers; between the bodies each buffer is held whole. A buffer held at contents
  nobody has fixed comes apart into pieces at contents nobody has fixed, and back.
-/
module

public import proofs.«01_k».proof.Proof.AsmBody

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

instance elt_nonempty (e : EltTy) : Nonempty (Elt F e) := by
  cases e <;> first | exact ⟨(0 : BitVec _)⟩ | exact ⟨FloatOps.ofBits _ 0⟩

/-- Parts given on rectangles that do not meet are parts of one whole. -/
theorem glue {s : Shape} {T α : Type} [Nonempty α] (r : T → Rect s)
    (hd : ∀ t t', t ≠ t' → Disjoint (r t).set (r t').set) (Y : (t : T) → (r t).shape.Idx → α) :
    ∃ X : s.Idx → α, ∀ t j, X ((r t).emb j) = Y t j := by
  classical
  refine ⟨fun i => if h : ∃ p : (t : T) × (r t).shape.Idx, (r p.1).emb p.2 = i then Y h.choose.1 h.choose.2
    else Classical.arbitrary α, fun t j => ?_⟩
  have h : ∃ p : (t : T) × (r t).shape.Idx, (r p.1).emb p.2 = (r t).emb j := ⟨⟨t, j⟩, rfl⟩
  have hp : h.choose = ⟨t, j⟩ := by
    have e := h.choose_spec
    generalize h.choose = p at e
    obtain ⟨t', j'⟩ := p
    by_cases ht : t' = t
    · subst ht
      have := (r t').emb.injective e
      subst this; rfl
    · have h' : (r t).emb j ∈ (r t').set := by
        rw [← Rect.map_emb_univ, ← e]; exact Finset.mem_map_of_mem _ (Finset.mem_univ _)
      have h : (r t).emb j ∈ (r t).set := by
        rw [← Rect.map_emb_univ]; exact Finset.mem_map_of_mem _ (Finset.mem_univ _)
      exact absurd h (Finset.disjoint_left.mp (hd t' t ht) h')
  dsimp only
  rw [dif_pos h, hp]

section Any

variable (d : Dev nD) {sp : Space} {s : Shape} {e : EltTy} (m : Memref sig .tc sp s e) {T : Type} [Fintype T] [DecidableEq T]
  (r : T → Rect s) (hr : ∀ t a, (r t).stride a = 1)
  (h : (∀ t t', t ≠ t' → Disjoint (r t).set (r t').set) ∧ (Finset.univ : Finset T).biUnion (fun t => (r t).set) = Finset.univ)

/-- A memref at contents nobody has fixed. -/
abbrev Any : sProp (M F) := iprop(∃ Y, ownsTc d m fullShare Y)

include h

theorem any_cut : Any (F := F) d m ⊢ bigSep Finset.univ fun t => Any d (m.slice (r t) (hr t)) := by
  iintro ⟨%Y, H⟩
  have e : (bigSep Finset.univ fun t => ownsTc d (m.slice (r t) (hr t)) fullShare (fun j => Y ((r t).emb j)) : sProp (M F))
      ⊢ bigSep Finset.univ fun t => Any (F := F) d (m.slice (r t) (hr t)) :=
    bigSep_mono fun t _ => exists_intro (Φ := fun Z => (ownsTc d (m.slice (r t) (hr t)) fullShare Z : sProp (M F))) (fun j => Y ((r t).emb j))
  iapply e
  iapply (owns_rects (d : Thread nD τ) m fullShare r hr h.1 h.2 Y) $$ H

theorem any_glue : (bigSep Finset.univ fun t => Any (F := F) d (m.slice (r t) (hr t))) ⊢ Any (F := F) d m := by
  refine (bigSep_exists_pi Finset.univ (fun t Y => (ownsTc d (m.slice (r t) (hr t)) fullShare Y : sProp (M F)))).trans ?_
  iintro ⟨%Y, H⟩
  obtain ⟨X, hX⟩ := glue r h.1 Y
  have e : Y = fun t j => X ((r t).emb j) := by funext t j; exact (hX t j).symm
  subst e
  iexists X
  iapply (owns_of_rects (d : Thread nD τ) m fullShare r hr h.1 h.2 X) $$ H

end Any

/-! ## Families over the chunks -/

theorem all_join3 {n : Nat} (A B C : Fin n → sProp (M F)) : iprop(all A ∗ all B ∗ all C) ⊢ all (fun r => iprop(A r ∗ B r ∗ C r)) :=
  (sep_mono_right (all_join B C)).trans (all_join A _)
theorem all_part3 {n : Nat} (A B C : Fin n → sProp (M F)) : all (fun r => iprop(A r ∗ B r ∗ C r)) ⊢ iprop(all A ∗ all B ∗ all C) :=
  (all_part A _).trans (sep_mono_right (all_part B C))

theorem all_mono {n : Nat} {A B : Fin n → sProp (M F)} (h : ∀ r, A r ⊢ B r) : all A ⊢ all B := bigSep_mono fun r _ => h r

/-- A family over two sides. -/
theorem two_sides {n : Nat} (Φ : Fin 2 × Fin n → sProp (M F)) :
    bigSep Finset.univ Φ = iprop(all (fun r => Φ (0, r)) ∗ all (fun r => Φ (1, r))) := by
  rw [BI.bigSep_univ_prod, BI.bigSep_fin_two]; rfl

variable (X : Dev nD → S4096x2048.Idx → Elt F .f32) (d : Dev nD)

/-- Contents nobody asks about. -/
theorem forget {sp : Space} {s : Shape} {e : EltTy} (m : Memref sig .tc sp s e) (Y : s.Idx → Elt F e) :
    ownsTc d m fullShare Y ⊢ Any (F := F) d m := exists_intro (Φ := fun Z => (ownsTc d m fullShare Z : sProp (M F))) Y

/-! ## The argument's read shares -/

theorem x_shares (C : S4096x2048.Idx → Elt F .f32) :
    (ownsTc d xM fullShare C : sProp (M F)) ⊢ iprop(ownsTc d xM rem C ∗ all (fun r => ownsTc d xM (tok r) C)) := by
  simp only [ownsTc, owns_whole]
  exact Transfers.pointsTo_toks_split fullShare 16
theorem x_whole (C : S4096x2048.Idx → Elt F .f32) :
    (iprop(ownsTc d xM rem C ∗ all (fun r => ownsTc d xM (tok r) C)) : sProp (M F)) ⊢ ownsTc d xM fullShare C := by
  simp only [ownsTc, owns_whole]
  exact Transfers.pointsTo_toks_join fullShare 16

/-! ## The exchange's buffers -/

/-- The semaphores of the exchange's local copies, at zero. -/
def localSems : sProp (M F) := iprop(semVal ((d : Thread nD τ), .dma cpSem) 0 ∗ all (idle16 d cc0_scratch5) ∗ all (idle16 d cc0_scratch6))

/-- Its scratch buffers. -/
def scratch0 : sProp (M F) := iprop(Any d pfM ∗ Any d ofM ∗ Any d obM ∗ Any d sbM)

theorem A0_of : iprop(all (fun r => ownsTc d xM (tok r) (X d)) ∗ all (fun r => Any d (peerDst r)) ∗ all (idle16 d cc0_scratch5))
    ⊢ all (A0 X d) := all_join3 _ _ _
theorem A0_to : all (A0 X d)
    ⊢ iprop(all (fun r => ownsTc d xM (tok r) (X d)) ∗ all (fun r => Any d (peerDst r)) ∗ all (idle16 d cc0_scratch5)) := all_part3 _ _ _

theorem commIn_of : iprop(ownsTc d xM fullShare (X d) ∗ scratch0 d ∗ Any d owM ∗ localSems d) ⊢ commIn X d := by
  unfold scratch0 localSems commIn A2
  iintro ⟨Hx, ⟨Hpf, Hof, Hob, Hsb⟩, How, Hcp, H5, H6⟩
  ihave Hx := (x_shares d (X d)) $$ Hx
  icases Hx with ⟨Hr, Hx⟩
  ihave Hpf := (any_cut d pfM R128 (fun _ _ => rfl) bands128) $$ Hpf
  ihave Hsb := (any_cut d sbM R128 (fun _ _ => rfl) bands128) $$ Hsb
  ihave Hob := (any_cut d obM R256 (fun _ _ => rfl) bands256) $$ Hob
  ihave How := (any_cut d owM R256 (fun _ _ => rfl) bands256) $$ How
  isplitl [Hx Hpf H5]
  · iapply (A0_of X d)
    isplitl [Hx]; · iexact Hx
    isplitl [Hpf]; · iexact Hpf
    iexact H5
  isplitl [Hsb]; · iexact Hsb
  isplitl [Hr Hof Hcp]
  · isplitl [Hr]; · iexact Hr
    isplitl [Hof]; · iexact Hof
    iexact Hcp
  iapply (all_join3 (fun r => Any d (ownVm r)) (fun r => Any d (ownDst r)) (idle16 d cc0_scratch6))
  isplitl [Hob]; · iexact Hob
  isplitl [How]; · iexact How
  iexact H6

/-- The rows of the exchange buffer where chunks land: those from the y neighbour and those from the x neighbour. -/
theorem ex_cut : Any (F := F) d exM ⊢ iprop(all (fun r => Any d (land d r)) ∗ all (fun r => Any d (land (xN d) r))) :=
  (any_cut d exM (RL d) (fun _ _ => rfl) (bandsRL d)).trans (Entails.of_eq (two_sides _))

theorem barPay_of (p : Dev nD) (k : Fin 4) :
    iprop(all (fun r => Any p (land d r)) ∗ all (fun r => reached ER (cell k p r) 0)) ⊢ (barPay d p k : sProp (M F)) := all_join _ _

/-- What the device hands over on the barriers. -/
theorem payloads_of : iprop(Any d exM ∗ all (fun r => reached ER (cell 1 d r) 0) ∗ all (fun r => reached ER (cell 3 d r) 0))
    ⊢ (iprop((Rd X).payload (barCell (yN d)) 0 false ∗ (Rd X).payload (barCell (xN d)) 0 true) : sProp (M F)) := by
  have ey : (Rd X).payload (barCell (yN d)) 0 false = (barPay (yN d) d 1 : sProp (M F)) := by
    show barPay (yN d) (yN (yN d)) 1 = _
    rw [yN_yN]
  have ex : (Rd X).payload (barCell (xN d)) 0 true = (barPay (xN d) d 3 : sProp (M F)) := by
    show barPay (xN d) (xN (xN d)) 3 = _
    rw [xN_xN]
  rw [ey, ex]
  iintro ⟨He, H1, H3⟩
  ihave He := (ex_cut d) $$ He
  icases He with ⟨Hy, Hx⟩
  isplitl [Hy H1]
  · iapply (barPay_of (yN d) d 1)
    isplitl [Hy]
    · iapply (all_mono (fun r => Entails.of_eq (show Any (F := F) d (land d r) = Any d (land (yN d) r) by rw [land_yN]))) $$ Hy
    iexact H1
  iapply (barPay_of (xN d) d 3)
  isplitl [Hx] <;> iassumption

/-! ## The exchange's results -/

theorem own_glue : all (fun r => ownsTc d (ownDst r) fullShare (OC X d r)) ⊢ (ownsTc d owM fullShare (owC X d) : sProp (M F)) := by
  refine (all_mono fun r => Entails.of_eq (by rw [OC_eq])).trans
    (owns_of_rects (d : Thread nD τ) owM fullShare R256 (fun _ _ => rfl) bands256.1 bands256.2 (owC X d))

theorem ex_glue : iprop(all (fun r => pay X 2 d r) ∗ all (fun r => pay X 3 d r)) ⊢ (ownsTc d exM fullShare (exC X d) : sProp (M F)) := by
  refine .trans (Entails.of_eq ?_) (owns_of_rects (d : Thread nD τ) exM fullShare (RL d) (fun _ _ => rfl) (bandsRL d).1 (bandsRL d).2 (exC X d))
  rw [two_sides]
  have h2 : (fun r => pay X 2 d r) = fun r => (ownsTc d (exM.slice (RL d (0, r)) (fun _ => rfl)) fullShare (fun j => exC X d ((RL d (0, r)).emb j)) : sProp (M F)) := by
    funext r
    rw [exC_side X d 0 r]; rfl
  have h3 : (fun r => pay X 3 d r) = fun r => (ownsTc d (exM.slice (RL d (1, r)) (fun _ => rfl)) fullShare (fun j => exC X d ((RL d (1, r)).emb j)) : sProp (M F)) := by
    funext r
    rw [exC_side X d 1 r]; rfl
  rw [h2, h3]

/-- Their semaphores for the transfers between devices, at zero. -/
def talkSems : sProp (M F) := iprop(all (fun r => semVal (cell 0 d r) 0) ∗ all (fun r => semVal (cell 1 d r) 0)
  ∗ all (fun r => semVal (cell 2 d r) 0) ∗ all (fun r => semVal (cell 3 d r) 0))

theorem B5_to : all (B5 X d) ⊢ iprop(all (fun r => semVal (cell 3 d r) 0) ∗ all (fun r => pay X 3 d r)) := all_part _ _
theorem B6_to : all (B6 X d) ⊢ iprop((all (fun r => semVal (cell 0 d r) 0) ∗ all (fun r => semVal (cell 2 d r) 0) ∗ all (idle16 d cc0_scratch6))
    ∗ all (fun r => pay X 0 d r) ∗ all (fun r => pay X 2 d r) ∗ all (kept X d)
    ∗ all (fun r => ownsTc d (ownVm r) fullShare (OC X d r)) ∗ all (fun r => ownsTc d (ownDst r) fullShare (OC X d r))) := by
  refine (all_part _ _).trans (BIClass.sep_mono (all_part3 _ _ _) ?_)
  exact (all_part _ _).trans (sep_mono_right ((all_part _ _).trans (sep_mono_right (all_part3 _ _ _))))

theorem commOut_to : commOut X d ⊢ iprop(Owe d 0 ∗ semVal (barCell d) 0 ∗ (ownsTc d xM fullShare (X d) ∗ ownsTc d exM fullShare (exC X d)
    ∗ ownsTc d owM fullShare (owC X d)) ∗ scratch0 d ∗ localSems d ∗ talkSems d) := by
  unfold commOut scratch0 localSems talkSems
  iintro ⟨HO, HA0, ⟨Hr, Hcp⟩, Hb, H1, HB5, HB6⟩
  ihave HA0 := (A0_to X d) $$ HA0
  icases HA0 with ⟨Hx, Hpf, H5⟩
  ihave HB5 := (B5_to X d) $$ HB5
  icases HB5 with ⟨H3, Hp3⟩
  ihave HB6 := (B6_to X d) $$ HB6
  icases HB6 with ⟨⟨H0, H2, H6⟩, Hp0, Hp2, Hk, Hvm, How⟩
  isplitl [HO]; · iexact HO
  isplitl [Hb]; · iexact Hb
  isplitl [Hr Hx Hp2 Hp3 How]
  · isplitl [Hr Hx]
    · iapply (x_whole d (X d))
      isplitl [Hr] <;> iassumption
    isplitl [Hp2 Hp3]
    · iapply (ex_glue X d)
      isplitl [Hp2] <;> iassumption
    iapply (own_glue X d); iexact How
  isplitl [Hpf Hk Hvm Hp0]
  · isplitl [Hpf]; · iapply (any_glue d pfM R128 (fun _ _ => rfl) bands128); iexact Hpf
    isplitl [Hk]
    · iapply (any_glue d ofM R256 (fun _ _ => rfl) bands256)
      iapply (show all (kept X d) ⊢ all (fun r => Any (F := F) d (ofM.slice (R256 r) (fun _ => rfl))) from
        all_mono (fun r => forget d (ofM.slice (R256 r) (fun _ => rfl)) _)) $$ Hk
    isplitl [Hvm]
    · iapply (any_glue d obM R256 (fun _ _ => rfl) bands256)
      iapply (all_mono (fun r => forget d (ownVm r) (OC X d r))) $$ Hvm
    iapply (any_glue d sbM R128 (fun _ _ => rfl) bands128)
    iapply (show all (fun r => pay X 0 d r) ⊢ all (fun r => Any (F := F) d (sendSrc r)) from
      all_mono (fun r => forget d (sendSrc r) (sentC X d r))) $$ Hp0
  isplitl [Hcp H5 H6]
  · isplitl [Hcp]; · iexact Hcp
    isplitl [H5] <;> iassumption
  isplitl [H0]; · iexact H0
  isplitl [H1]; · iexact H1
  isplitl [H2] <;> iassumption

/-! ## The assembly's buffers -/

theorem any_squeeze {sp : Space} {s s' : Shape} {e : EltTy} (m : Memref sig .tc sp s e) (h : s.Squeezes s') :
    Any (F := F) d m ⊢ Any d (m.squeeze s' h) := by
  iintro ⟨%Y, H⟩
  ihave H := (show owns (d : Thread nD τ) m fullShare Y ⊢ (iprop(∃ g, ⌜m.view.read (Elt F) g = Y⌝ ∗ m.view.loc (d : Thread nD τ) ↦[m.view.set]{fullShare} g) : sProp (M F)) from .rfl) $$ H
  icases H with ⟨%g, -, H⟩
  iexists _
  iapply (owns_intro (d : Thread nD τ) (m.squeeze s' h) fullShare (f := g))
  iapply (Entails.of_eq (show (m.view.loc (d : Thread nD τ) ↦[m.view.set]{fullShare} g : sProp (M F))
    = (m.view.loc (d : Thread nD τ) ↦[(m.squeeze s' h).view.set]{fullShare} g) from
      congrArg (fun S => (m.view.loc (d : Thread nD τ) ↦[S]{fullShare} g : sProp (M F))) (View.set_reshape (v := m.view) h.numel_eq).symm)) $$ H

theorem any_unsqueeze {sp : Space} {s s' : Shape} {e : EltTy} (m : Memref sig .tc sp s e) (h : s.Squeezes s') :
    Any (F := F) d (m.squeeze s' h) ⊢ Any d m := by
  iintro ⟨%Y, H⟩
  ihave H := (show owns (d : Thread nD τ) (m.squeeze s' h) fullShare Y ⊢ (iprop(∃ g, ⌜(m.squeeze s' h).view.read (Elt F) g = Y⌝
    ∗ (m.squeeze s' h).view.loc (d : Thread nD τ) ↦[(m.squeeze s' h).view.set]{fullShare} g) : sProp (M F)) from .rfl) $$ H
  icases H with ⟨%g, -, H⟩
  iexists _
  iapply (owns_intro (d : Thread nD τ) m fullShare (f := g))
  iapply (Entails.of_eq (show (m.view.loc (d : Thread nD τ) ↦[(m.squeeze s' h).view.set]{fullShare} g : sProp (M F))
    = (m.view.loc (d : Thread nD τ) ↦[m.view.set]{fullShare} g) from
      congrArg (fun S => (m.view.loc (d : Thread nD τ) ↦[S]{fullShare} g : sProp (M F))) (View.set_reshape (v := m.view) h.numel_eq))) $$ H

/-- A family over the eight slots, by halves. -/
theorem halves (Φ : Fin 8 → sProp (M F)) : all Φ = iprop(all (fun r => Φ (lo r)) ∗ all (fun r => Φ (hi r))) := by
  unfold all
  rw [BI.bigSep_univ_equiv (finSumFinEquiv (m := 4) (n := 4)) Φ, BI.bigSep_univ_sum]
  rfl

theorem slots_cut : Any (F := F) d bnM ⊢ iprop(all (fun r => Any d (slot (lo r))) ∗ all (fun r => Any d (slot (hi r)))) :=
  (any_cut d bnM RBn (fun _ _ => rfl) bandsBn).trans
    ((all_mono fun r => any_squeeze d _ squeezes_S1x1024x1024_S1024x1024).trans (Entails.of_eq (halves (fun r => Any d (slot r)))))
theorem slots_glue : iprop(all (fun r => Any d (slot (lo r))) ∗ all (fun r => Any d (slot (hi r)))) ⊢ Any (F := F) d bnM :=
  (Entails.of_eq (halves (fun r => Any (F := F) d (slot r))).symm).trans
    ((all_mono fun r => any_unsqueeze d _ squeezes_S1x1024x1024_S1024x1024).trans (any_glue d bnM RBn (fun _ _ => rfl) bandsBn))

variable (E O : S4096x1024.Idx → Elt F .bf16)

/-- The semaphores of the assembly, at zero. -/
def asmSems : sProp (M F) := iprop((all (fun r => idle d (i8 (lo r))) ∗ all (fun r => idle d (i8 (hi r))))
  ∗ all (fun r => idle d (o8 (lo r))) ∗ all (fun r => idle d (o8 (hi r))))

theorem TAO_of : iprop(all (fun r => ownsTc d (ownQ r) fullShare (quarter O r)) ∗ all (fun r => Any d (slot (lo r))) ∗ all (fun r => idle d (i8 (lo r))))
    ⊢ all (TAO d O) := all_join3 _ _ _
theorem TAE_of : iprop(all (fun r => ownsTc d (exQ r) fullShare (quarter E r)) ∗ all (fun r => Any d (slot (hi r))) ∗ all (fun r => idle d (i8 (hi r))))
    ⊢ all (TAE d E) := all_join3 _ _ _

theorem asmIn_of : iprop(Owe d 0 ∗ (ownsTc d exM fullShare E ∗ ownsTc d owM fullShare O) ∗ Any d outM ∗ Any d bnM ∗ asmSems d) ⊢ asmIn d E O := by
  unfold asmIn asmSems
  iintro ⟨HO, ⟨He, Ho⟩, Hr, Hb, ⟨Hil, Hih⟩, Hol, Hoh⟩
  ihave Hb := (slots_cut d) $$ Hb
  icases Hb with ⟨Hbl, Hbh⟩
  ihave He := (owns_rects (d : Thread nD τ) exM fullShare R1024 (fun _ _ => rfl) bands1024.1 bands1024.2 E) $$ He
  ihave Ho := (owns_rects (d : Thread nD τ) owM fullShare R1024 (fun _ _ => rfl) bands1024.1 bands1024.2 O) $$ Ho
  ihave Hr := ((any_cut d outM (RR d) (fun t _ => by obtain ⟨k, r⟩ := t; fin_cases k <;> rfl) (bandsRR d)).trans (Entails.of_eq (two_sides _))) $$ Hr
  icases Hr with ⟨Hro, Hre⟩
  isplitl [HO]; · iexact HO
  isplitl [Ho Hbl Hil]
  · iapply (TAO_of d O)
    isplitl [Ho]; · iexact Ho
    isplitl [Hbl]; · iexact Hbl
    iexact Hil
  isplitl [He Hbh Hih]
  · iapply (TAE_of d E)
    isplitl [He]; · iexact He
    isplitl [Hbh]; · iexact Hbh
    iexact Hih
  isplitl [Hro Hol]
  · iapply (all_join (fun r => Any d (resO d r)) (fun r => idle d (o8 (lo r))))
    isplitl [Hro]; · iexact Hro
    iexact Hol
  iapply (all_join (fun r => Any d (resE d r)) (fun r => idle d (o8 (hi r))))
  isplitl [Hre]; · iexact Hre
  iexact Hoh

theorem TEO_to : all (TEO d O) ⊢ iprop(all (fun r => ownsTc d (resO d r) fullShare (quarter O r)) ∗ all (fun r => Any d (slot (lo r))) ∗ all (fun r => idle d (o8 (lo r)))) :=
  (all_part3 _ _ _).trans (sep_mono_right (sep_mono_left (all_mono fun r => forget d (slot (lo r)) (quarter O r))))
theorem TEE_to : all (TEE d E) ⊢ iprop(all (fun r => ownsTc d (resE d r) fullShare (quarter E r)) ∗ all (fun r => Any d (slot (hi r))) ∗ all (fun r => idle d (o8 (hi r)))) :=
  (all_part3 _ _ _).trans (sep_mono_right (sep_mono_left (all_mono fun r => forget d (slot (hi r)) (quarter E r))))

theorem res_glue : iprop(all (fun r => ownsTc d (resO d r) fullShare (quarter O r)) ∗ all (fun r => ownsTc d (resE d r) fullShare (quarter E r)))
    ⊢ (ownsTc d outM fullShare (resC d E O) : sProp (M F)) := by
  refine .trans (Entails.of_eq ?_) (owns_of_rects (d : Thread nD τ) outM fullShare (RR d)
    (fun t _ => by obtain ⟨k, r⟩ := t; fin_cases k <;> rfl) (bandsRR d).1 (bandsRR d).2 (resC d E O))
  rw [two_sides]
  have h1 : (fun r => ownsTc d (resO d r) fullShare (quarter O r))
      = fun r => (ownsTc d (resO d r) fullShare (fun j => resC d E O ((RResO d r).emb j)) : sProp (M F)) := by
    funext r; exact congrArg (ownsTc d (resO d r) fullShare) (resC_own d E O r).symm
  have h2 : (fun r => ownsTc d (resE d r) fullShare (quarter E r))
      = fun r => (ownsTc d (resE d r) fullShare (fun j => resC d E O ((RResE d r).emb j)) : sProp (M F)) := by
    funext r; exact congrArg (ownsTc d (resE d r) fullShare) (resC_ex d E O r).symm
  rw [h1, h2]
  rfl

theorem asmOut_to : asmOut d E O ⊢ iprop(Owe d 0 ∗ ownsTc d outM fullShare (resC d E O) ∗ Any d exM ∗ Any d owM ∗ Any d bnM ∗ asmSems d) := by
  unfold asmOut asmSems
  iintro ⟨HO, ⟨HSO, HEO⟩, HSE, HEE⟩
  ihave HSO := (all_part (fun r => ownsTc d (ownQ r) fullShare (quarter O r)) (fun r => idle d (i8 (lo r)))) $$ HSO
  icases HSO with ⟨Ho, Hil⟩
  ihave HSE := (all_part (fun r => ownsTc d (exQ r) fullShare (quarter E r)) (fun r => idle d (i8 (hi r)))) $$ HSE
  icases HSE with ⟨He, Hih⟩
  ihave HEO := (TEO_to d O) $$ HEO
  icases HEO with ⟨Hro, Hbl, Hol⟩
  ihave HEE := (TEE_to d E) $$ HEE
  icases HEE with ⟨Hre, Hbh, Hoh⟩
  isplitl [HO]; · iexact HO
  isplitl [Hro Hre]
  · iapply (res_glue d E O)
    isplitl [Hro] <;> iassumption
  isplitl [He]
  · iapply (any_glue d exM R1024 (fun _ _ => rfl) bands1024)
    iapply (all_mono (fun r => forget d (exQ r) (quarter E r))) $$ He
  isplitl [Ho]
  · iapply (any_glue d owM R1024 (fun _ _ => rfl) bands1024)
    iapply (all_mono (fun r => forget d (ownQ r) (quarter O r))) $$ Ho
  isplitl [Hbl Hbh]
  · iapply (slots_glue d)
    isplitl [Hbl]; · iexact Hbl
    iexact Hbh
  isplitl [Hil Hih]
  · isplitl [Hil] <;> iassumption
  isplitl [Hol] <;> iassumption

end Cert.KernelIdeal.Comm

end
-- ==== Proof.Opening.lean ====
/-
  Opening the exchange.

  From launch a device holds the ghost state of its cells, the transfer cells still dormant. On entering the exchange it
  puts the semaphores at zero into the dormant cells and hands its landing rows over to the barriers' payloads.
-/
module

public import proofs.«01_k».proof.Proof.Pieces

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
variable (X : Dev nD → S4096x2048.Idx → Elt F .f32) (K : GSem nD τ sig → ℕ) (d : Dev nD)

/-! ## The semaphores of the exchange -/

/-- The exchange's semaphores: that of the kept columns' copy, those of the other local copies, and those of the
    transfers between devices. -/
abbrev K0 : Type := Unit ⊕ (Fin 2 × Fin 16) ⊕ (Fin 4 × Fin 16)
abbrev osem0 : K0 → SemLoc sig
  | .inl _ => .dma cpSem
  | .inr (.inl (0, r)) => .dma (sem16 cc0_scratch5 r)
  | .inr (.inl (1, r)) => .dma (sem16 cc0_scratch6 r)
  | .inr (.inr (k, r)) => .dma (talk k r)

/-- The assembly's semaphores: the copies in and the copies out, each of the kept columns and of the received rows. -/
abbrev K1 : Type := (Fin 2 × Fin 4) ⊕ (Fin 2 × Fin 4)
abbrev osem1 : K1 → SemLoc sig
  | .inl (0, r) => .dma (i8 (lo r))
  | .inl (1, r) => .dma (i8 (hi r))
  | .inr (0, r) => .dma (o8 (lo r))
  | .inr (1, r) => .dma (o8 (hi r))

/-- A family over four kinds. -/
theorem four_kinds {n : Nat} (Φ : Fin 4 × Fin n → sProp (M F)) :
    bigSep Finset.univ Φ = iprop(all (fun r => Φ (0, r)) ∗ all (fun r => Φ (1, r)) ∗ all (fun r => Φ (2, r)) ∗ all (fun r => Φ (3, r))) := by
  rw [BI.bigSep_univ_prod]
  exact bigSep_univ_eq_bigSepL [0, 1, 2, 3] (by decide) (by decide) _

theorem ownSems0_eq : (Pipeline.ownSems0 osem0 d : sProp (M F)) = iprop(
    semVal ((d : Thread nD τ), .dma cpSem) 0 ∗ (all (idle16 d cc0_scratch5) ∗ all (idle16 d cc0_scratch6)) ∗ talkSems d) := by
  unfold Pipeline.ownSems0 talkSems
  rw [BI.bigSep_univ_sum, BI.bigSep_univ_sum, two_sides, four_kinds, bigSep_univ_of_subsingleton ()]
  rfl

theorem ownSems1_eq : (Pipeline.ownSems0 osem1 d : sProp (M F)) = asmSems d := by
  unfold Pipeline.ownSems0 asmSems
  rw [BI.bigSep_univ_sum, two_sides, two_sides]
  rfl

theorem own0 : Pipeline.OwnSemFacts cfg0.spec osem0 := by decide +kernel
theorem own1 : Pipeline.OwnSemFacts cfg1.spec osem1 := by decide +kernel

/-! ## The ghost state -/

/-- What a device has from launch. -/
def ghost : sProp (M F) :=
  iprop(records X K
    ∗ (dutyTok ER (barCell (yN d)) 0 false ∗ reached ER (barCell (yN d)) 0)
    ∗ (dutyTok ER (barCell (xN d)) 0 true ∗ reached ER (barCell (xN d)) 0)
    ∗ atPos ER (barCell d) 0 ∅ 0
    ∗ bigSep Finset.univ (fun t : Fin 4 × Fin 16 => openTok ER (cell t.1 d t.2))
    ∗ all (fun r => dutyTok ER (cell 0 d r) 0 false) ∗ all (fun r => dutyTok ER (cell 1 (yN d) r) 0 false)
    ∗ all (fun r => dutyTok ER (cell 2 d r) 0 false) ∗ all (fun r => dutyTok ER (cell 3 (xN d) r) 0 false))

/-- The credits a device has from launch. -/
def credits : sProp (M F) :=
  iprop(cred (tallyAt (barCell d) () 2) ∗ all (fun r => cred (tallyAt (cell 1 d r) () N)) ∗ all (fun r => cred (tallyAt (cell 3 d r) () N)))

/-- Opening the transfer cells. -/
theorem open_cells : iprop(records X K ∗ bigSep Finset.univ (fun t : Fin 4 × Fin 16 => openTok ER (cell t.1 d t.2)) ∗ talkSems d)
    ⊢ (|={Set.univ}=> iprop(bigSep Finset.univ (fun t : Fin 4 × Fin 16 => atPos ER (cell t.1 d t.2) 0 ∅ 0)
        ∗ bigSep Finset.univ (fun t : Fin 4 × Fin 16 => reached ER (cell t.1 d t.2) 0)) : sProp (M F)) := by
  rw [show talkSems d = bigSep Finset.univ (fun t : Fin 4 × Fin 16 => (semVal (cell t.1 d t.2) 0 : sProp (M F))) from by rw [four_kinds]; rfl]
  have h : ∀ t : Fin 4 × Fin 16, iprop(records X K ∗ openTok ER (cell t.1 d t.2) ∗ semVal (cell t.1 d t.2) 0)
      ⊢ (|={Set.univ}=> iprop(atPos ER (cell t.1 d t.2) 0 ∅ 0 ∗ reached ER (cell t.1 d t.2) 0) : sProp (M F)) := fun t => by
    iintro ⟨#HR, Ho, Hv⟩
    iapply (Rounds.cell_open ER (Rd X) (g := cell t.1 d t.2) (Set.mem_univ (K (cell t.1 d t.2))))
    isplitr; · iapply (inv_cell X K t.1 d t.2); iexact HR
    isplitl [Ho] <;> iassumption
  iintro ⟨#HR, Ho, Hv⟩
  ihave H := (Entails.of_eq (bigSep_sep' (Finset.univ : Finset (Fin 4 × Fin 16)) (fun t => openTok ER (cell t.1 d t.2)) (fun t => (semVal (cell t.1 d t.2) 0 : sProp (M F)))).symm) $$ [Ho Hv]
  · isplitl [Ho] <;> iassumption
  ihave H := ((bigSep_with_persistent (R := records X K) (S := (Finset.univ : Finset (Fin 4 × Fin 16)))
    (Φ := fun t => iprop(openTok ER (cell t.1 d t.2) ∗ semVal (cell t.1 d t.2) 0)) fun t _ => h t).trans (bigSep_fupd _ _)) $$ [H]
  · isplitr; · iexact HR
    iexact H
  imod H with H
  imodintro
  iapply (Entails.of_eq (bigSep_sep' (Finset.univ : Finset (Fin 4 × Fin 16)) (fun t => atPos ER (cell t.1 d t.2) 0 ∅ 0) (fun t => (reached ER (cell t.1 d t.2) 0 : sProp (M F))))) $$ H

theorem sendGhost_of (p : Dev nD) (k₁ k₂ : Fin 4) :
    iprop(all (fun r => dutyTok ER (cell k₁ d r) 0 false) ∗ all (fun r => reached ER (cell k₁ d r) 0) ∗ all (fun r => dutyTok ER (cell k₂ p r) 0 false))
      ⊢ (all (sendGhost d p k₁ k₂) : sProp (M F)) := all_join3 _ _ _
theorem A5_of : iprop(all (fun r => cred (tallyAt (cell 3 d r) () N)) ∗ all (fun r => atPos ER (cell 3 d r) 0 ∅ 0)) ⊢ (all (A5 d) : sProp (M F)) :=
  all_join _ _

theorem talkIn_of : iprop(ghost X K d ∗ credits d ∗ talkSems d ∗ Any d exM) ⊢ (|={Set.univ}=> iprop(records X K ∗ talkIn X d) : sProp (M F)) := by
  unfold ghost credits talkIn A7
  iintro ⟨⟨#HR, ⟨Hty, #Hry⟩, ⟨Htx, #Hrx⟩, Hab, Ho, Ht0, Ht1, Ht2, Ht3⟩, ⟨Hcb, Hc1, Hc3⟩, Hv, He⟩
  imod (open_cells X K d) $$ [Ho Hv] with ⟨Hat, #Hre⟩
  · isplitr; · iexact HR
    isplitl [Ho] <;> iassumption
  ihave Hat := (Entails.of_eq (four_kinds (fun t : Fin 4 × Fin 16 => (atPos ER (cell t.1 d t.2) 0 ∅ 0 : sProp (M F))))) $$ Hat
  icases Hat with ⟨Ha0, Ha1, Ha2, Ha3⟩
  ihave Hre' := (Entails.of_eq (four_kinds (fun t : Fin 4 × Fin 16 => (reached ER (cell t.1 d t.2) 0 : sProp (M F))))) $$ Hre
  icases Hre' with ⟨#Hr0, #Hr1, #Hr2, #Hr3⟩
  imodintro
  isplitr; · iexact HR
  ihave Hp := (payloads_of X d) $$ [He]
  · isplitl [He]; · iexact He
    isplitr; · iexact Hr1
    iexact Hr3
  icases Hp with ⟨Hpy, Hpx⟩
  isplitl [Hty Htx Hpy Hpx Hcb Hab]
  · isplitl [Hty Hpy]
    · isplitl [Hty]; · iexact Hty
      isplitr; · iexact Hry
      iexact Hpy
    isplitl [Htx Hpx]
    · isplitl [Htx]; · iexact Htx
      isplitr; · iexact Hrx
      iexact Hpx
    isplitl [Hcb] <;> iassumption
  isplitl [Ht0 Ht1]
  · iapply (sendGhost_of d (yN d) 0 1)
    isplitl [Ht0]; · iexact Ht0
    isplitr; · iexact Hr0
    iexact Ht1
  isplitl [Ht2 Ht3]
  · iapply (sendGhost_of d (xN d) 2 3)
    isplitl [Ht2]; · iexact Ht2
    isplitr; · iexact Hr2
    iexact Ht3
  isplitl [Hc1 Ha1]
  · iapply (all_join (fun r => cred (tallyAt (cell 1 d r) () N)) (fun r => atPos ER (cell 1 d r) 0 ∅ 0))
    isplitl [Hc1]; · iexact Hc1
    iexact Ha1
  isplitl [Hc3 Ha3]
  · iapply (A5_of d)
    isplitl [Hc3]; · iexact Hc3
    iexact Ha3
  isplitl [Ha0]; · iexact Ha0
  iexact Ha2

end Cert.KernelIdeal.Comm

end
-- ==== Proof.Segments.lean ====
/-
  The two regions.

  The exchange is entered from the launch: the argument, three result buffers nobody has fixed, the ghost state and the
  debts of the device. It leaves the received and the kept columns in closed form and no debt. The assembly turns these
  into the result.
-/
module

public import proofs.«01_k».proof.Proof.Opening
public import proofs.«01_k».proof.Proof.Gen.KernelIdeal.Launch

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]
variable (X : Dev nD → S4096x2048.Idx → Elt F .f32) (c : Dev nD)

/-! ## The assertions between the steps -/

/-- What enters the exchange beside the scratch. -/
def in0 : sProp (M F) := iprop((∃ K, records X K ∗ talkIn X c) ∗ levAts L lv ∗ ownsTc c xM fullShare (X c) ∗ Any c owM ∗ localSems c)
/-- What it leaves. -/
def out0 : sProp (M F) := iprop(semVal (barCell c) 0 ∗ ownsTc c xM fullShare (X c) ∗ ownsTc c exM fullShare (exC X c) ∗ ownsTc c owM fullShare (owC X c))
/-- The result of the device. -/
abbrev res : S8192x1024.Idx → Elt F .bf16 := resC c (exC X c) (owC X c)
def in1 : sProp (M F) := iprop((ownsTc c exM fullShare (exC X c) ∗ ownsTc c owM fullShare (owC X c)) ∗ Any c outM ∗ asmSems c)
def out1 : sProp (M F) := ownsTc c outM fullShare (res X c)

/-- The scratch of both bodies. -/
def scratch : sProp (M F) := iprop(scratch0 c ∗ Any c bnM)

theorem scratch_eq : (Pipeline.scopedRest (Ix := Unit) (Name := ℕ) (U := UU) (Lvl := ℕ) (Val := Elt F) cfg0.spec c : sProp (M F)) ⊢ scratch c := by
  rw [scopedRest0_eq]
  unfold scratch scratch0
  simp only [ownsTc, Any, owns_whole]
  iintro ⟨H0, H1, H2, H3, H4⟩
  isplitr [H4]
  · isplitl [H0]; · iexact H0
    isplitl [H1]; · iexact H1
    isplitl [H2]; · iexact H2
    iexact H3
  iexact H4

theorem eq_scratch : scratch c ⊢ (Pipeline.scopedRest (Ix := Unit) (Name := ℕ) (U := UU) (Lvl := ℕ) (Val := Elt F) cfg0.spec c : sProp (M F)) := by
  rw [scopedRest0_eq]
  unfold scratch scratch0
  simp only [ownsTc, Any, owns_whole]
  iintro ⟨⟨H0, H1, H2, H3⟩, H4⟩
  isplitl [H0]; · iexact H0
  isplitl [H1]; · iexact H1
  isplitl [H2]; · iexact H2
  isplitl [H3]; · iexact H3
  iexact H4

/-! ## The proof data -/

def dat0 (c : Dev nD) : Dat τ (Elt F) Unit ℕ UU ℕ cfg0 c where
  A w := w.elim0
  after w := w.elim0
  Φ t := if t.val = 0 then iprop(in0 X c ∗ scratch c) else iprop(out0 X c ∗ (localSems c ∗ talkSems c) ∗ scratch c)
  q w := w.elim0
  owed t := if t.val = 0 then O₀ c else 0

def dat1 (c : Dev nD) : Dat τ (Elt F) Unit ℕ UU ℕ cfg1 c where
  A w := w.elim0
  after w := w.elim0
  Φ t := if t.val = 0 then iprop(in1 X c ∗ scratch c) else iprop(out1 X c ∗ asmSems c ∗ scratch c)
  q w := w.elim0
  owed _ := 0

abbrev adm : (p : Fin 2) → (pcfgs (F := F) p).Adm := fun p => (cfgs p).toPCfg_adm
def pdats : (p : Fin 2) → (c : Dev nD) → Dat τ (Elt F) Unit ℕ UU ℕ (Pipeline.pin (pcfgs (F := F)) adm p) c
  | 0 => dat0 X
  | 1 => dat1 X

theorem no_window (Φ : Fin 0 → sProp (M F)) : bigSep Finset.univ Φ = (BI.emp : sProp (M F)) :=
  bigSep_univ_eq_bigSepL [] (by decide) (by decide) Φ

theorem owes_in {cfg : Pipeline.Cfg sig Λ₀} {c : Dev nD} (dat : Dat τ (Elt F) Unit ℕ UU ℕ cfg c) (t : Fin (cfg.N + 1))
    (O : CellTallies nD τ sig Unit) (h : dat.owed t = O) (hr : dat.recorded t = Set.univ) : Owe c O ⊢ (dat.owesAt () t : sProp (M F)) := by
  unfold Owe Dat.owesAt Pipeline.owesWithin Dat.bound
  rw [h, hr]
  iintro ⟨%W, H⟩
  iexists W
  isplitr; · ipureintro; exact fun _ _ => Or.inl trivial
  iexact H

theorem owes_out {cfg : Pipeline.Cfg sig Λ₀} {c : Dev nD} (dat : Dat τ (Elt F) Unit ℕ UU ℕ cfg c) (t : Fin (cfg.N + 1))
    (O : CellTallies nD τ sig Unit) (h : dat.owed t = O) : (dat.owesAt () t : sProp (M F)) ⊢ Owe c O := by
  unfold Owe Dat.owesAt Pipeline.owesWithin
  rw [h]
  iintro ⟨%W, -, H⟩
  iexists W; iexact H

/-! ## The bodies -/

theorem first0 : (dat0 X c).Φ t0_0.castSucc = iprop(in0 X c ∗ scratch c) := rfl
theorem last0 : (dat0 X c).Φ t0_0.succ = iprop(out0 X c ∗ (localSems c ∗ talkSems c) ∗ scratch c) := rfl
theorem first1 : (dat1 X c).Φ t1_0.castSucc = iprop(in1 X c ∗ scratch c) := rfl
theorem last1 : (dat1 X c).Φ t1_0.succ = iprop(out1 X c ∗ asmSems c ∗ scratch c) := rfl

theorem body_eq0 : (defs₀ (F := F)) Proc.tc cfg0.body (cfg0.bodyArgs t0_0 (cfg0.slots t0_0)) = comm := rfl
theorem body_eq1 : (defs₀ (F := F)) Proc.tc cfg1.body (cfg1.bodyArgs t1_0 (cfg1.slots t1_0)) = asm := rfl

theorem body0 : BodyObligation (dat0 X c) defs₀ Variants.none () Set.univ := fun t => by
  obtain rfl := fin_N0 t
  rw [no_window, no_window, first0, last0, body_eq0]
  unfold in0 out0 scratch
  iintro ⟨⟨⟨⟨%K, #HR, Ht⟩, #HL, Hx, How, Hs⟩, Hsc, Hbn⟩, HO, -⟩
  ihave HO := (owes_out (dat0 X c) t0_0.castSucc (O₀ c) rfl) $$ HO
  iapply (comm_run X K c)
  isplitl [HO]
  · isplitr; · iexact HR
    isplitr; · iexact HL
    iexact HO
  isplitl [Hx How Hs Hsc]
  · iapply (commIn_of X c)
    isplitl [Hx]; · iexact Hx
    isplitl [Hsc]; · iexact Hsc
    isplitl [How] <;> iassumption
  isplitl [Ht]; · iexact Ht
  iintro H
  ihave H := (commOut_to X c) $$ H
  icases H with ⟨HO, Hb, Hbufs, Hsc, Hls, Hts⟩
  isplitr [HO]
  · isplitl [Hb Hbufs]; · isplitl [Hb] <;> iassumption
    isplitl [Hls Hts]; · isplitl [Hls] <;> iassumption
    isplitl [Hsc] <;> iassumption
  isplitl [HO]
  · iapply (owes_in (dat0 X c) t0_0.succ 0 rfl rfl); iexact HO
  iempintro

theorem body1 : BodyObligation (dat1 X c) defs₀ Variants.none () Set.univ := fun t => by
  obtain rfl := fin_N1 t
  rw [no_window, no_window, first1, last1, body_eq1]
  unfold in1 out1 scratch
  iintro ⟨⟨⟨Hbufs, Hr, Hs⟩, Hsc, Hbn⟩, HO, -⟩
  ihave HO := (owes_out (dat1 X c) t1_0.castSucc 0 rfl) $$ HO
  iapply (asm_run c (exC X c) (owC X c))
  isplitl [HO Hbufs Hr Hbn Hs]
  · iapply (asmIn_of c (exC X c) (owC X c))
    isplitl [HO]; · iexact HO
    isplitl [Hbufs]; · iexact Hbufs
    isplitl [Hr]; · iexact Hr
    isplitl [Hbn] <;> iassumption
  iintro H
  ihave H := (asmOut_to c (exC X c) (owC X c)) $$ H
  icases H with ⟨HO, Hr, -, -, Hbn, Hs⟩
  isplitr [HO]
  · isplitl [Hr]; · iexact Hr
    isplitl [Hs]; · iexact Hs
    isplitl [Hsc] <;> iassumption
  isplitl [HO]
  · iapply (owes_in (dat1 X c) t1_0.succ 0 rfl rfl); iexact HO
  iempintro

/-! ## The records -/

/-- The thread states: at launch, between the regions, at the end. -/
def state0 : sProp (M F) := iprop((ownsTc c xM fullShare (X c) ∗ Any c exM ∗ Any c owM ∗ Any c outM) ∗ (∃ K, ghost X K c) ∗ credits c ∗ Owe c (O₀ c))
def state1 : sProp (M F) := iprop(out0 X c ∗ Any c outM ∗ Owe c 0)
def state2 : sProp (M F) := iprop(out1 X c ∗ ownsTc c xM fullShare (X c) ∗ semVal (barCell c) 0 ∗ Owe c 0)

local notation "RS" => Pipeline.RegionSeg (pcfgs (F := F)) adm (pdats X) () defs₀ Variants.none L lv

theorem no_array0 (c : Dev nD) (A) : ((pdats X 0 c).arrays A : sProp (M F)) = BI.emp := no_window _
theorem no_array1 (c : Dev nD) (A) : ((pdats X 1 c).arrays A : sProp (M F)) = BI.emp := no_window _
theorem no_table (p : Fin 2) (c : Dev nD) (q) (pf) :
    (Pipeline.prefHeld (Ix := Unit) (Name := ℕ) (U := UU) (Lvl := ℕ) (Val := Elt F) (pcfgs (F := F) p).pre c q pf : sProp (M F)) = BI.emp := by
  fin_cases p <;> exact no_window _

set_option backward.isDefEq.respectTransparency.types false in
def reg0 : RS 0 where
  win := winFacts0.to₀
  block_pos w := w.elim0
  stage_whole w := w.elim0
  K := K0
  osem := osem0
  ho := own0
  hbody c := (body0 X c).loose
  hwaits c := Pipeline.cellsWaits_intro _ (pdats X) () 0 c fun w => w.elim0
  pre := state0 X
  post := state1 X
  X := in0 X
  Y := out0 X
  Z c := Any c outM
  hentry c := by
    rw [ownSems0_eq, no_array0, no_table]
    unfold state0 in0 localSems
    iintro ⟨⟨⟨Hx, He, How, Hr⟩, ⟨%K, Hg⟩, Hc, HO⟩, ⟨Hcp, ⟨H5, H6⟩, Hts⟩, #HL⟩
    imod (talkIn_of X K c) $$ [Hg Hc Hts He] with ⟨#HR, Ht⟩
    · isplitl [Hg]; · iexact Hg
      isplitl [Hc]; · iexact Hc
      isplitl [Hts] <;> iassumption
    imodintro
    isplitr; · iempintro
    isplitr; · iempintro
    isplitl [HO]; · iapply (owes_in (pdats X 0 c) 0 (O₀ c) rfl rfl); iexact HO
    isplitr [Hr]
    · isplitl [Ht]
      · iexists K
        isplitr; · iexact HR
        iexact Ht
      isplitr; · iexact HL
      isplitl [Hx]; · iexact Hx
      isplitl [How]; · iexact How
      isplitl [Hcp]; · iexact Hcp
      isplitl [H5] <;> iassumption
    iexact Hr
  hin c := by
    rw [show (pdats X 0 c).Φ 0 = iprop(in0 X c ∗ scratch c) from rfl]
    iintro ⟨HX, -, Hs⟩
    isplitl [HX]; · iexact HX
    iapply (scratch_eq c); iexact Hs
  hout c := by
    rw [show (pdats X 0 c).Φ (Fin.last _) = iprop(out0 X c ∗ (localSems c ∗ talkSems c) ∗ scratch c) from rfl, ownSems0_eq]
    unfold localSems
    iintro ⟨HY, ⟨⟨Hcp, H5, H6⟩, Hts⟩, Hs⟩
    isplitl [HY]; · iexact HY
    isplitr [Hs]
    · isplitl [Hcp]; · iexact Hcp
      isplitl [H5 H6]; · isplitl [H5] <;> iassumption
      iexact Hts
    iapply (eq_scratch c); iexact Hs
  hexit c := by
    unfold state1
    iintro ⟨-, HO, HY, Hr⟩
    imodintro
    isplitl [HY]; · iexact HY
    isplitl [Hr]; · iexact Hr
    iapply (owes_out (pdats X 0 c) (Fin.last _) 0 rfl); iexact HO

set_option backward.isDefEq.respectTransparency.types false in
def reg1 : RS 1 where
  win := winFacts1.to₀
  block_pos w := w.elim0
  stage_whole w := w.elim0
  K := K1
  osem := osem1
  ho := own1
  hbody c := (body1 X c).loose
  hwaits c := Pipeline.cellsWaits_intro _ (pdats X) () 1 c fun w => w.elim0
  pre := state1 X
  post := state2 X
  X := in1 X
  Y := out1 X
  Z c := iprop(ownsTc c xM fullShare (X c) ∗ semVal (barCell c) 0)
  hentry c := by
    rw [ownSems1_eq, no_array1, no_table]
    unfold state1 in1 out0
    iintro ⟨⟨⟨Hb, Hx, He, How⟩, Hr, HO⟩, Hs, -⟩
    imodintro
    isplitr; · iempintro
    isplitr; · iempintro
    isplitl [HO]; · iapply (owes_in (pdats X 1 c) 0 0 rfl rfl); iexact HO
    isplitr [Hx Hb]
    · isplitl [He How]; · isplitl [He] <;> iassumption
      isplitl [Hr] <;> iassumption
    isplitl [Hx] <;> iassumption
  hin c := by
    rw [show (pdats X 1 c).Φ 0 = iprop(in1 X c ∗ scratch c) from rfl]
    iintro ⟨HX, -, Hs⟩
    isplitl [HX]; · iexact HX
    iapply (scratch_eq c); iexact Hs
  hout c := by
    rw [show (pdats X 1 c).Φ (Fin.last _) = iprop(out1 X c ∗ asmSems c ∗ scratch c) from rfl, ownSems1_eq]
    iintro ⟨HY, Ha, Hs⟩
    isplitl [HY]; · iexact HY
    isplitl [Ha]; · iexact Ha
    iapply (eq_scratch c); iexact Hs
  hexit c := by
    unfold state2
    iintro ⟨-, HO, HY, Hx, Hb⟩
    imodintro
    isplitl [HY]; · iexact HY
    isplitl [Hx]; · iexact Hx
    isplitl [Hb]; · iexact Hb
    iapply (owes_out (pdats X 1 c) (Fin.last _) 0 rfl); iexact HO

end Cert.KernelIdeal.Comm

end
-- ==== Proof.Launch.lean ====
/-
  The launch.

  The barrier of every device is funded from its counter, the transfer semaphores are funded dormant, and each duty of the
  protocol has one token. A token goes to the device that performs the duty: a neighbour's, for the barrier and for the
  arrivals. What the four devices owe together at launch is what each of them waits for.
-/
module

public import proofs.«01_k».proof.Proof.Segments

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The tokens -/

/-- The duty a token stands for: one of the two signals of a barrier, or the one arrival at a transfer semaphore. -/
def duty (t : Dev nD × (Bool ⊕ (Fin 4 × Fin 16))) : GSem nD τ sig × ℕ × Bool :=
  match t.2 with
  | .inl b => (barCell t.1, 0, b)
  | .inr kr => (cell kr.1 t.1 kr.2, 0, false)

theorem cell_ne_bar (k : Fin 4) (d c : Dev nD) (r : Fin 16) : cell k d r ≠ barCell c := fun h => by
  have h2 : SemLoc.dma (talk k r) = (SemLoc.reg barS : SemLoc sig) := congrArg Prod.snd h
  injection h2

theorem duty_inj : Function.Injective duty := by
  rintro ⟨d, b | ⟨k, r⟩⟩ ⟨d', b' | ⟨k', r'⟩⟩ h
  · have h1 : barCell d = barCell d' := congrArg Prod.fst h
    have h2 : b = b' := congrArg (fun t : GSem nD τ sig × ℕ × Bool => t.2.2) h
    rw [barEmb.injective h1, h2]
  · exact absurd (congrArg Prod.fst h).symm (cell_ne_bar k' d' d r')
  · exact absurd (congrArg Prod.fst h) (cell_ne_bar k d d' r)
  · obtain ⟨h1, h2, h3⟩ := cell_inj (show cell k d r = cell k' d' r' from congrArg Prod.fst h)
    rw [h1, h2, h3]

def toks : Finset (GSem nD τ sig × ℕ × Bool) := Finset.univ.map ⟨duty, duty_inj⟩

theorem disjoint_cells : Disjoint (barCells : Finset (GSem nD τ sig)) xferCells := by
  rw [Finset.disjoint_left]
  intro g h₁ h₂
  obtain ⟨c, -, rfl⟩ := Finset.mem_map.mp h₁
  obtain ⟨⟨d, k, r⟩, -, h⟩ := Finset.mem_map.mp h₂
  exact cell_ne_bar k d c r h

section Hand

variable (c : Dev nD)

/-- The tokens of a device's own semaphores. -/
def born : sProp (M F) :=
  iprop((dutyTok ER (barCell c) 0 false ∗ dutyTok ER (barCell c) 0 true)
    ∗ all (fun r => dutyTok ER (cell 0 c r) 0 false) ∗ all (fun r => dutyTok ER (cell 1 c r) 0 false)
    ∗ all (fun r => dutyTok ER (cell 2 c r) 0 false) ∗ all (fun r => dutyTok ER (cell 3 c r) 0 false))
/-- The tokens of the duties it performs. -/
def held : sProp (M F) :=
  iprop((dutyTok ER (barCell (yN c)) 0 false ∗ dutyTok ER (barCell (xN c)) 0 true)
    ∗ all (fun r => dutyTok ER (cell 0 c r) 0 false) ∗ all (fun r => dutyTok ER (cell 1 (yN c) r) 0 false)
    ∗ all (fun r => dutyTok ER (cell 2 c r) 0 false) ∗ all (fun r => dutyTok ER (cell 3 (xN c) r) 0 false))

theorem toks_born : bigSep toks (fun x => (dutyTok ER x.1 x.2.1 x.2.2 : sProp (M F))) = bigSep Finset.univ (born (F := F)) := by
  unfold toks
  rw [bigSep_map, BI.bigSep_univ_prod]
  refine bigSep_congr fun c _ => ?_
  rw [BI.bigSep_univ_sum, four_kinds, bigSep_univ_eq_bigSepL [false, true] (by decide) (by decide)]
  rfl

/-- A family over the devices, read at the neighbours. -/
theorem turn (e : Dev nD → Dev nD) (he : ∀ d, e (e d) = d) (Φ : Dev nD → sProp (M F)) :
    bigSep Finset.univ Φ = bigSep Finset.univ fun c => Φ (e c) :=
  BI.bigSep_univ_equiv ⟨e, e, he, he⟩ Φ

theorem born_held : bigSep Finset.univ (born (F := F)) ⊢ bigSep Finset.univ (held (F := F)) := by
  unfold born held
  simp only [bigSep_sep']
  rw [turn yN yN_yN (fun c => (dutyTok ER (barCell c) 0 false : sProp (M F))),
    turn xN xN_xN (fun c => (dutyTok ER (barCell c) 0 true : sProp (M F))),
    turn yN yN_yN (fun c => (all (fun r => dutyTok ER (cell 1 c r) 0 false) : sProp (M F))),
    turn xN xN_xN (fun c => (all (fun r => dutyTok ER (cell 3 c r) 0 false) : sProp (M F)))]

/-- What of the ghost state is one device's alone. -/
def own : sProp (M F) :=
  iprop(atPos ER (barCell c) 0 ∅ 0 ∗ bigSep Finset.univ (fun t : Fin 4 × Fin 16 => openTok ER (cell t.1 c t.2)) ∗ held c)

theorem ghost_of (X : Dev nD → S4096x2048.Idx → Elt F .f32) (K : GSem nD τ sig → ℕ) :
    iprop((records X K ∗ bigSep barCells fun g => reached ER g 0) ∗ own c) ⊢ ghost X K c := by
  have hr : ∀ d, (bigSep barCells fun g => (reached ER g 0 : sProp (M F))) ⊢ reached ER (barCell d) 0 := fun d => bigSep_elim (mem_bar d)
  unfold own held ghost
  iintro ⟨⟨#HR, #Hb⟩, Ha, Ho, ⟨Hy, Hx⟩, H0, H1, H2, H3⟩
  isplitr; · iexact HR
  isplitl [Hy]
  · isplitl [Hy]; · iexact Hy
    iapply (hr (yN c)); iexact Hb
  isplitl [Hx]
  · isplitl [Hx]; · iexact Hx
    iapply (hr (xN c)); iexact Hb
  isplitl [Ha]; · iexact Ha
  isplitl [Ho]; · iexact Ho
  isplitl [H0]; · iexact H0
  isplitl [H1]; · iexact H1
  isplitl [H2]; · iexact H2
  iexact H3

end Hand

/-! ## The credit -/

section Credit

variable (c : Dev nD)

theorem one_more (Φ : Fin 16 → sProp (M F)) {r : Fin 16} {rs : List (Fin 16)} (h : (r :: rs).Nodup) :
    iprop(Φ r ∗ bigSep rs.toFinset Φ) ⊢ bigSep (r :: rs).toFinset Φ :=
  Entails.of_eq (by
    rw [List.toFinset_cons, bigSep_insert (fun hr => (List.nodup_cons.mp h).1 (List.mem_toFinset.mp hr))]
    rfl)

theorem cred_y : ∀ rs : List (Fin 16), rs.Nodup →
    (Pipeline.launchCred (fun d => OY d rs) c : sProp (M F)) ⊢ bigSep rs.toFinset (fun r => cred (tallyAt (cell 1 c r) () N))
  | [], _ => by
    rw [show ([] : List (Fin 16)).toFinset = ∅ from rfl, BI.bigSep_empty]
    iintro -; iempintro
  | r :: rs, h => by
    rw [show (fun d => OY d (r :: rs)) = fun d => OY d rs + tallyAt (cell 1 (yN d) r) () N from rfl, Pipeline.launchCred_add]
    iintro ⟨H, Hr⟩
    iapply (one_more (fun r => cred (tallyAt (cell 1 c r) () N)) h)
    isplitl [Hr]
    · iapply (Pipeline.launchCred_tallyAt (SemLoc.dma (talk 1 r)) yN yN yN_yN yN_yN () N c) $$ Hr
    iapply (cred_y rs (List.nodup_cons.mp h).2) $$ H

theorem cred_x : ∀ rs : List (Fin 16), rs.Nodup →
    (Pipeline.launchCred (fun d => OX d rs) c : sProp (M F)) ⊢ bigSep rs.toFinset (fun r => cred (tallyAt (cell 3 c r) () N))
  | [], _ => by
    rw [show ([] : List (Fin 16)).toFinset = ∅ from rfl, BI.bigSep_empty]
    iintro -; iempintro
  | r :: rs, h => by
    rw [show (fun d => OX d (r :: rs)) = fun d => OX d rs + tallyAt (cell 3 (xN d) r) () N from rfl, Pipeline.launchCred_add]
    iintro ⟨H, Hr⟩
    iapply (one_more (fun r => cred (tallyAt (cell 3 c r) () N)) h)
    isplitl [Hr]
    · iapply (Pipeline.launchCred_tallyAt (SemLoc.dma (talk 3 r)) xN xN xN_xN xN_xN () N c) $$ Hr
    iapply (cred_x rs (List.nodup_cons.mp h).2) $$ H

theorem two_bar : iprop(cred (tallyAt (barCell c) () 1) ∗ cred (tallyAt (barCell c) () 1)) ⊢ (cred (tallyAt (barCell c) () 2) : sProp (M F)) := by
  have e : (tallyAt (barCell c) () 2 : CellTallies nD τ sig Unit) = tallyAt (barCell c) () 1 + tallyAt (barCell c) () 1 := by
    unfold tallyAt
    rw [← tallyOn_add, ← Finsupp.single_add]
  rw [e]
  exact (cred_add _ _).2

theorem credits_of : (Pipeline.launchCred O₀ c : sProp (M F)) ⊢ credits c := by
  have e : chunks.toFinset = Finset.univ := by decide
  have hy := cred_y (F := F) c chunks (by decide)
  have hx := cred_x (F := F) c chunks (by decide)
  rw [e] at hy hx
  rw [show (O₀ : Dev nD → CellTallies nD τ sig Unit)
      = fun d => (OX d chunks + OY d chunks) + tallyAt (barCell (xN d)) () 1 + tallyAt (barCell (yN d)) () 1 from rfl,
    Pipeline.launchCred_add, Pipeline.launchCred_add, Pipeline.launchCred_add]
  unfold credits
  iintro ⟨⟨⟨HX, HY⟩, Hx⟩, Hy⟩
  isplitl [Hx Hy]
  · iapply (two_bar c)
    isplitl [Hx]
    · iapply (Pipeline.launchCred_tallyAt (SemLoc.reg barS) xN xN xN_xN xN_xN () 1 c) $$ Hx
    iapply (Pipeline.launchCred_tallyAt (SemLoc.reg barS) yN yN yN_yN yN_yN () 1 c) $$ Hy
  isplitl [HY]
  · iapply hy $$ HY
  iapply hx $$ HX

end Credit

end Cert.KernelIdeal.Comm

end
-- ==== Proof.Run.lean ====
/-
  The run.

  From any memory with every counter at zero the four devices terminate; the argument is unchanged, the result holds the
  columns of the device in closed form, and every counter is at zero again.
-/
module

public import proofs.«01_k».proof.Proof.Launch

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
variable (m : (ℓ : Loc nD τ sig) → Buf (Elt F) ℓ) (ρ : Dev nD → PrngReg)

/-- What a device's argument holds at launch. -/
def arg (d : Dev nD) : S4096x2048.Idx → Elt F .f32 := m ((d : Thread nD τ).loc main_arg0)

abbrev segs : List (Pipeline.Seg (pcfgs (F := F)) adm (pdats (arg m)) () defs₀ Variants.none L lv) :=
  [.region (reg0 (arg m)), .region (reg1 (arg m))]

/-! ## What is dealt -/

/-- The ghost state of the exchange at launch. -/
def start : UT := launchOf barCells xferCells toks
def u₀ : UU :=
  (initOf (Pipeline.cells (Pipeline.pin (pcfgs (F := F)) adm) cellOf_inj) (Pipeline.launchToks (Pipeline.pin (pcfgs (F := F)) adm) cellOf_inj),
    (start, 1))

/-- The ghost state is handed to device 0 until it is dealt. -/
def G (c : Dev nD) : sProp (M F) := if c = 0 then BI.own (ER start) else iprop(emp)

theorem G_all : bigSep Finset.univ (G (F := F)) ⊢ BI.own (ER start) := bigSep_elim (Finset.mem_univ 0)
theorem all_G : (BI.own (ER start) : sProp (M F)) ⊢ bigSep Finset.univ (G (F := F)) := by
  have h : bigSep Finset.univ (G (F := F)) = iprop(BI.own (ER start) ∗ emp ∗ emp ∗ emp) :=
    bigSep_univ_eq_bigSepL [0, 1, 2, 3] (by decide) (by decide) _
  rw [h]
  iintro H
  isplitl [H]; · iexact H
  isplitl []; · iempintro
  isplitl []; · iempintro
  iempintro

theorem start_split : (ownU (u₀ (F := F)) : sProp (M F))
    ⊢ iprop(BI.own (EP (initOf (Pipeline.cells (Pipeline.pin (pcfgs (F := F)) adm) cellOf_inj)
        (Pipeline.launchToks (Pipeline.pin (pcfgs (F := F)) adm) cellOf_inj))) ∗ bigSep Finset.univ (G (F := F))) := by
  have h2 : (BI.own ((embR : Emb (UT × Counters) (M F)) (start, 1)) : sProp (M F)) ⊢ BI.own (ER start) := by
    refine (own_pair_emb (embR : Emb (UT × Counters) (M F)) start 1).trans ?_
    iintro ⟨H, -⟩
    iexact H
  unfold u₀
  iintro Hu
  ihave H := (ownU_pair _ _) $$ Hu
  icases H with ⟨HP, HX⟩
  isplitl [HP]; · iexact HP
  iapply all_G
  iapply h2 $$ HX

theorem bufs_eq (c : Dev nD) : (unscopedBufs c (fun b => m ((c : Thread nD τ).loc b)) : sProp (M F))
    ⊢ iprop(ownsTc c xM fullShare (arg m c) ∗ Any c exM ∗ Any c owM ∗ Any c outM) := by
  have h : (unscopedBufs c (fun b => m ((c : Thread nD τ).loc b)) : sProp (M F))
      = iprop((((c : Thread nD τ).loc main_arg0) ↦{fullShare} m ((c : Thread nD τ).loc main_arg0))
        ∗ (((c : Thread nD τ).loc main_v1_0) ↦{fullShare} m ((c : Thread nD τ).loc main_v1_0))
        ∗ (((c : Thread nD τ).loc main_v1_1) ↦{fullShare} m ((c : Thread nD τ).loc main_v1_1))
        ∗ (((c : Thread nD τ).loc main_v2) ↦{fullShare} m ((c : Thread nD τ).loc main_v2))) := by
    unfold unscopedBufs
    exact bigSep_eq_bigSepL_of_eq [main_arg0, main_v1_0, main_v1_1, main_v2] (by decide) (by decide) _
  rw [h]
  simp only [ownsTc, Any, owns_whole]
  iintro ⟨Hx, He, How, Ho⟩
  isplitl [Hx]; · iexact Hx
  isplitl [He]; · iexists (m ((c : Thread nD τ).loc main_v1_0)); iexact He
  isplitl [How]; · iexists (m ((c : Thread nD τ).loc main_v1_1)); iexact How
  iexists (m ((c : Thread nD τ).loc main_v2)); iexact Ho

theorem bar_eq (c : Dev nD) : (unscopedSems0 c : sProp (M F)) = semVal (barCell c) 0 := by
  unfold unscopedSems0
  rw [show (Finset.univ.filter fun sm : SemLoc sig => ¬ sm.isScoped .tc) = {SemLoc.reg barS} from by decide +kernel, bigSep_singleton]

/-- What of a device's launch holdings is not ghost state. -/
def bundle (c : Dev nD) : sProp (M F) :=
  iprop((ownsTc c xM fullShare (arg m c) ∗ Any c exM ∗ Any c owM ∗ Any c outM) ∗ credits c ∗ Owe c (O₀ c))

theorem bundle_of (c : Dev nD) :
    iprop(unscopedBufs c (fun b => m ((c : Thread nD τ).loc b)) ∗ unscopedSems0 c ∗ owes (c : Thread nD τ) (O₀ c) ∅
        ∗ Pipeline.launchCred O₀ c ∗ prngReg c (ρ c) ∗ G c)
      ⊢ (iprop(bundle m c ∗ semVal (barCell c) 0 ∗ G c) : sProp (M F)) := by
  rw [bar_eq]
  unfold bundle Owe
  iintro ⟨Hb, Hs, HO, Hc, -, HG⟩
  isplitr [Hs HG]
  · isplitl [Hb]; · iapply (bufs_eq m c) $$ Hb
    isplitl [Hc]; · iapply (credits_of c) $$ Hc
    iexists ∅; iexact HO
  isplitl [Hs]; · iexact Hs
  iexact HG

theorem state0_of (K : GSem nD τ sig → ℕ) (c : Dev nD) :
    iprop((records (arg m) K ∗ bigSep barCells fun g => reached ER g 0) ∗ (own c ∗ bundle m c)) ⊢ state0 (arg m) c := by
  unfold bundle state0
  iintro ⟨#HR, Ho, Hb, Hc, HO⟩
  isplitl [Hb]; · iexact Hb
  isplitl [Ho]
  · iexists K
    iapply (ghost_of c (arg m) K)
    isplitr; · iexact HR
    iexact Ho
  isplitl [Hc]; · iexact Hc
  iexact HO

theorem pairs_join (Φ Ψ : Dev nD → sProp (M F)) :
    iprop(bigSep Finset.univ Φ ∗ bigSep Finset.univ Ψ) ⊢ bigSep Finset.univ fun c => iprop(Φ c ∗ Ψ c) := Entails.of_eq (bigSep_sep' _ Φ Ψ).symm
theorem pairs_part (Φ Ψ : Dev nD → sProp (M F)) :
    (bigSep Finset.univ fun c => iprop(Φ c ∗ Ψ c)) ⊢ iprop(bigSep Finset.univ Φ ∗ bigSep Finset.univ Ψ) := Entails.of_eq (bigSep_sep' _ Φ Ψ)

theorem deal :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (state0 (arg m)) : sProp (M F)) := by
  have hv : bigSep Finset.univ (fun c : Dev nD => (semVal (barCell c) 0 : sProp (M F))) ⊢ bigSep barCells (fun g => (semVal g 0 : sProp (M F))) :=
    Entails.of_eq (bigSep_map (s := Finset.univ) barEmb (Φ := fun g : GSem nD τ sig => (semVal g 0 : sProp (M F)))).symm
  have hat : bigSep barCells (fun g => (atPos ER g 0 ∅ 0 : sProp (M F))) ⊢ bigSep Finset.univ (fun c : Dev nD => (atPos ER (barCell c) 0 ∅ 0 : sProp (M F))) :=
    Entails.of_eq (bigSep_map (s := Finset.univ) barEmb (Φ := fun g : GSem nD τ sig => (atPos ER g 0 ∅ 0 : sProp (M F))))
  have hopen : bigSep xferCells (fun g => (openTok ER g : sProp (M F)))
      ⊢ bigSep Finset.univ (fun c : Dev nD => bigSep Finset.univ fun t : Fin 4 × Fin 16 => openTok ER (cell t.1 c t.2)) :=
    Entails.of_eq (by unfold xferCells; rw [bigSep_map, BI.bigSep_univ_prod]; rfl)
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ semVal (barCell c) 0 ∗ G c) : sProp (M F)) from
    bigSep_mono fun c _ => bundle_of m ρ c) $$ H
  ihave H := (pairs_part _ _) $$ H; icases H with ⟨HB, H⟩
  ihave H := (pairs_part _ _) $$ H; icases H with ⟨Hv, HG⟩
  ihave Hu := (show bigSep Finset.univ (G (F := F)) ⊢ BI.own (ER (launchOf barCells xferCells toks)) from G_all) $$ HG
  imod (Rounds.fund_launch ER (Rd (arg m)) disjoint_cells (fun g _ h => h) toks) $$ [Hv Hu] with ⟨%K, -, #Hinv, #Hr, Hat, Hopen, Htok⟩
  · isplitl [Hv]
    · iapply hv $$ Hv
    iexact Hu
  imodintro
  iapply (bigSep_with_persistent (R := iprop(records (arg m) K ∗ bigSep barCells fun g => reached ER g 0))
    (Φ := fun c => iprop(own c ∗ bundle m c)) fun c _ => state0_of m K c)
  isplitr
  · isplitr
    · iapply (show (bigSep (barCells ∪ xferCells) fun g => cellInv ER (Rd (arg m)) (K g) g) ⊢ records (arg m) K from Entails.rfl); iexact Hinv
    iexact Hr
  iapply (pairs_join _ _)
  isplitr [HB]
  · iapply (show bigSep Finset.univ (fun c : Dev nD => iprop(atPos ER (barCell c) 0 ∅ 0
        ∗ bigSep Finset.univ (fun t : Fin 4 × Fin 16 => openTok ER (cell t.1 c t.2)) ∗ held c)) ⊢ bigSep Finset.univ (own (F := F)) from Entails.rfl)
    iapply (pairs_join _ _)
    isplitl [Hat]; · iapply hat $$ Hat
    iapply (pairs_join _ _)
    isplitl [Hopen]; · iapply hopen $$ Hopen
    iapply (born_held (F := F))
    iapply (Entails.of_eq (toks_born (F := F))) $$ Htok
  iexact HB

/-! ## The end -/

/-- What a device has at the end. -/
def last (c : Dev nD) : sProp (M F) := iprop(ownsTc c outM fullShare (res (arg m) c) ∗ ownsTc c xM fullShare (arg m c) ∗ semVal (barCell c) 0)

theorem last_of (c : Dev nD) : state2 (arg m) c ⊢ iprop(last m c ∗ ∃ W, owes (c : Thread nD τ) (0 : CellTallies nD τ sig Unit) W) := by
  unfold state2 last out1 Owe
  iintro ⟨Ho, Hx, Hb, HO⟩
  isplitr [HO]
  · isplitl [Ho]; · iexact Ho
    isplitl [Hx] <;> iassumption
  iexact HO

theorem unscoped_bar : ∀ sm : SemLoc sig, sm.isScoped .tc = false → sm = .reg barS := by decide +kernel

theorem read_last (c : Dev nD) (s' : Phys nD τ sig (Elt F)) :
    iprop(last m c ∗ SI s') ⊢ (|={Set.univ}=> iprop(⌜(s'.mem.mem ((c : Thread nD τ).loc main_v2) = res (arg m) c
        ∧ s'.mem.mem ((c : Thread nD τ).loc main_arg0) = arg m c) ∧ s'.mem.sem (barCell c) = 0⌝ ∗ SI s') : sProp (M F)) := by
  unfold last
  simp only [ownsTc, owns_whole]
  iintro ⟨⟨Ho, Hx, Hb⟩, HSI⟩
  icombine HSI Ho gives %ho
  icombine HSI Hx gives %hx
  icombine HSI Hb gives %hb
  imodintro
  isplitr
  · ipureintro
    exact ⟨⟨Buf.eq_of_forall_mem_univ ho, Buf.eq_of_forall_mem_univ hx⟩, by simpa using hb⟩
  iexact HSI

set_option backward.isDefEq.respectTransparency.types false in
/-- The run of the four devices. -/
theorem run_main : θ_run defs (onTc (τ := τ) (main (F := F))) ⟨m, fun _ => 0, ρ⟩
    (fun r => (∀ c : Dev nD, r.2.mem ((c : Thread nD τ).loc main_v2) = res (arg m) c
        ∧ r.2.mem ((c : Thread nD τ).loc main_arg0) = arg m c) ∧ r.2.sem = fun _ => 0) :=
  Pipeline.θ_run_regions_kit_sems (pcfgs (F := F)) adm (pdats (arg m)) () cellOf_inj EP defs₀ Variants.none L lv m ρ main (segs m)
    (fun c Q => by rw [main_segs adm (pdats (arg m)) () Variants.none L lv (reg0 (arg m)) (reg1 (arg m)) c])
    (by simp only [segs, Pipeline.Seg.pipes_region, Pipeline.Seg.pipes_nil]; decide)
    (O₀ := O₀) (hL := fun g hg => if_neg hg) (G := G) (u₀ := u₀ (F := F))
    (hu₀ := by
      iintro Hu
      imodintro
      iapply start_split $$ Hu)
    (T₀ := state0 (arg m)) (Tₙ := last m)
    (hch := ⟨fun c => .rfl, fun c => .rfl, fun c => last_of m c⟩)
    (hinit := deal m ρ)
    (QY := fun c s => (s.mem ((c : Thread nD τ).loc main_v2) = res (arg m) c
        ∧ s.mem ((c : Thread nD τ).loc main_arg0) = arg m c) ∧ s.sem (barCell c) = 0)
    (hfin := read_last m)
    (hQ := fun s h hs => ⟨fun c => (h c).1, sem_eq_zero hs fun c sm hsm => by
        obtain rfl := unscoped_bar sm hsm
        exact (h c).2⟩)

end Cert.KernelIdeal.Comm

end
-- ==== Proof.Value.lean ====
/-
  The value.

  When the devices' arguments are the row blocks of one array, the result of a device is its column block of that array,
  each number narrowed: half of the rows it kept, the other half it received, and every one of them lies at the row and the
  column of the whole array that the block names.
-/
module

public import proofs.«01_k».proof.Proof.Contents
public import Idealize.ShloMosaic.Lib.Layout

@[expose] public section

noncomputable section

namespace Cert.KernelIdeal.Comm

open Idealize.ShloMosaic Idealize.ShloMosaic.TcCoe
open Cert.KernelIdeal.Gen

variable {F : FTy → Type} [FloatOps F]

/-- The whole argument and the whole result. -/
abbrev Whole : Shape := ⟨2, ![8192, 2048]⟩

/-- The coordinates of device `d`'s block of rows, and of its block of columns. -/
abbrev rowBlk (d : Dev nD) := Layout.meshBlock [2, 2] (![[1], []] : Fin 2 → List Nat) d
abbrev colBlk (d : Dev nD) := Layout.meshBlock [2, 2] (![[], [1]] : Fin 2 → List Nat) d

/-- Device `d`'s block of rows. -/
abbrev rowsOf {α : Type} (W : Whole.Idx → α) (d : Dev nD) : S4096x2048.Idx → α :=
  Layout.blockN ⟨2, ![4096, 2048]⟩ Whole (rowBlk d) W
/-- Device `d`'s block of columns. -/
abbrev colsOf {α : Type} (W : Whole.Idx → α) (d : Dev nD) : S8192x1024.Idx → α :=
  Layout.blockN ⟨2, ![8192, 1024]⟩ Whole (colBlk d) W

/-- Element `(a, b)` of the whole array. -/
def atW (a b : Nat) (ha : a < 8192) (hb : b < 2048) : Whole.Idx := ix2 (n0 := 8192) (n1 := 2048) ⟨a, ha⟩ ⟨b, hb⟩

theorem atW_congr {a a' b b' : Nat} {ha hb ha' hb'} (h : a = a') (h' : b = b') : atW a b ha hb = atW a' b' ha' hb' := by
  subst h h'; rfl

theorem rowBlock : ∀ d : Dev nD, (rowBlk d 0).val = d.val % 2
    ∧ (rowBlk d 1).val = 0 := by decide
theorem colBlock : ∀ d : Dev nD, (colBlk d 0).val = 0
    ∧ (colBlk d 1).val = d.val % 2 := by decide

theorem rowsOf_apply {α : Type} (W : Whole.Idx → α) (d : Dev nD) (i : S4096x2048.Idx) :
    rowsOf W d i = W (atW (4096 * (d.val % 2) + (i 0).val) (i 1).val
      (by have : (i 0).val < 4096 := (i 0).isLt; omega) (i 1).isLt) := by
  refine congrArg W (idx2_ext ?_ ?_)
  · show (rowBlk d 0).val * 4096 + (i 0).val = 4096 * (d.val % 2) + (i 0).val
    rw [(rowBlock d).1, Nat.mul_comm]
  · show (rowBlk d 1).val * 2048 + (i 1).val = (i 1).val
    rw [(rowBlock d).2, Nat.zero_mul, Nat.zero_add]

theorem colsOf_apply {α : Type} (W : Whole.Idx → α) (d : Dev nD) (i : S8192x1024.Idx) :
    colsOf W d i = W (atW (i 0).val (1024 * (d.val % 2) + (i 1).val)
      (i 0).isLt (by have : (i 1).val < 1024 := (i 1).isLt; omega)) := by
  refine congrArg W (idx2_ext ?_ ?_)
  · show (colBlk d 0).val * 8192 + (i 0).val = (i 0).val
    rw [(colBlock d).1, Nat.zero_mul, Nat.zero_add]
  · show (colBlk d 1).val * 1024 + (i 1).val = 1024 * (d.val % 2) + (i 1).val
    rw [(colBlock d).2, Nat.mul_comm]

/-- The result of device `d` is its block of columns of the whole array narrowed. -/
theorem value (W : Whole.Idx → Elt F .f32) (d : Dev nD) :
    resC d (exC (rowsOf W) d) (owC (rowsOf W) d) = colsOf (fun i => nar1 (W i)) d := by
  funext i
  have hd := dev_lt d
  have h0 : (i 0).val < 8192 := (i 0).isLt
  rw [colsOf_apply]
  unfold resC
  by_cases h : (i 0).val / 4096 = d.val % 2
  · rw [if_pos h]
    unfold owC keptC
    rw [rowsOf_apply]
    refine congrArg (fun j => nar1 (W j)) (atW_congr ?_ ?_)
    · have e0 := emb_0 (A := 4096) (B := 2048) (inb := k0_off3_inb d) _ _ (k0_off3_eq d) (halfIdx i)
      rw [show ((ROwn d).emb (halfIdx i) 0).val = _ from e0, halfIdx_0]; omega
    · have e1 := emb_1 (A := 4096) (B := 2048) (inb := k0_off3_inb d) _ _ (k0_off3_eq d) (halfIdx i)
      rw [show ((ROwn d).emb (halfIdx i) 1).val = _ from e1, halfIdx_1]
  · rw [if_neg h]
    unfold exC
    rw [rowsOf_apply]
    have hs : (srcDev d (halfIdx i 0).val).val % 2 = 1 - d.val % 2 := by
      unfold srcDev; dsimp only; omega
    refine congrArg (fun j => nar1 (W j)) (atW_congr ?_ ?_)
    · rw [hs, exIdx_0, halfIdx_0]; omega
    · rw [exIdx_1, halfIdx_1]

end Cert.KernelIdeal.Comm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-! The kernel's run is one theorem for any float values, `Cert.KernelIdeal.Comm.run_main`: both programs are the same text. -/

theorem kernel_frame : Cert.quiescent_Kernel := fun m ρ _ =>
  (θ_run Cert.KernelIdeal.defs _ _).mono (fun _ h => ⟨fun c => (h.1 c).2, h.2⟩) (Cert.KernelIdeal.Comm.run_main (F := Bits) m ρ)

theorem ideal_frame : Cert.quiescent_KernelIdeal := fun m ρ _ =>
  (θ_run Cert.KernelIdeal.defs _ _).mono (fun _ h => ⟨fun c => (h.1 c).2, h.2⟩) (Cert.KernelIdeal.Comm.run_main (F := Ideal) m ρ)

theorem refIdeal_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem ref_frame : Cert.quiescent_Reference := fun m ρ _ =>
  (θ_run Cert.Reference.defs _ _).mono (fun r h => ⟨fun c => (h c).2, sem_eq_zero_of_no_sems (by decide) r.2⟩)
    (Cert.Reference.Value.run m ρ)

open Cert.KernelIdeal.Comm in
/-- From row blocks of one array, every device ends with its column block of that array narrowed. -/
theorem result {F : FTy → Type} [FloatOps F]
    (m : (ℓ : Loc Cert.KernelIdeal.nD Cert.KernelIdeal.τ Cert.KernelIdeal.sig) → Buf (Elt F) ℓ) (ρ : Dev Cert.KernelIdeal.nD → PrngReg)
    (W : Whole.Idx → Elt F .f32) (hW : ∀ c : Dev Cert.KernelIdeal.nD, m ((c : Thread Cert.KernelIdeal.nD Cert.KernelIdeal.τ).loc Cert.KernelIdeal.main_arg0) = rowsOf W c) :
    θ_run (Cert.KernelIdeal.defs (F := F)) (onTc (τ := Cert.KernelIdeal.τ) (Cert.KernelIdeal.main (F := F))) ⟨m, fun _ => 0, ρ⟩
      (fun r => ∀ c : Dev Cert.KernelIdeal.nD,
        r.2.mem ((c : Thread Cert.KernelIdeal.nD Cert.KernelIdeal.τ).loc Cert.KernelIdeal.main_v2) = colsOf (fun i => nar1 (W i)) c
          ∧ r.2.mem ((c : Thread Cert.KernelIdeal.nD Cert.KernelIdeal.τ).loc Cert.KernelIdeal.main_arg0) = m ((c : Thread Cert.KernelIdeal.nD Cert.KernelIdeal.τ).loc Cert.KernelIdeal.main_arg0)) := by
  have e : arg m = rowsOf W := funext hW
  refine (θ_run Cert.KernelIdeal.defs _ _).mono (fun r h c => ⟨(h.1 c).1.trans ?_, (h.1 c).2⟩) (run_main m ρ)
  rw [e]
  exact value W c

theorem algebraic : Cert.algebraic_KernelIdeal_ReferenceIdeal := fun m ρ m' ρ' _ hm =>
  ⟨_, result (F := Ideal) m ρ _ hm, (θ_run Cert.ReferenceIdeal.defs _ _).mono (fun _ h => h 0) (Cert.ReferenceIdeal.Value.run m' ρ')⟩

theorem bitexact : Cert.bitexact_Kernel_Reference := fun m ρ m' ρ' _ hm =>
  ⟨_, result (F := Bits) m ρ _ hm, (θ_run Cert.Reference.defs _ _).mono (fun _ h => h 0) (Cert.Reference.Value.run m' ρ')⟩

theorem claim : Cert.Claim :=
  ⟨Cert.Kernel.Gen.facts, Cert.KernelIdeal.Gen.facts, Cert.ReferenceIdeal.Gen.facts, Cert.Reference.Gen.facts,
    kernel_frame, ideal_frame, refIdeal_frame, ref_frame, trivial, algebraic, bitexact⟩

end Cert.Proof

end
